-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![16384, 2048]⟩ ⟨2, ![32768, 2048]⟩ (Layout.meshBlock [2, 2, 2] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![32768, 1024]⟩ ⟨2, ![32768, 2048]⟩ (Layout.meshBlock [2, 2, 2] ![[], [0]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x2048 : Shape := ⟨2, ![16384, 2048]⟩
abbrev S32768x1024 : Shape := ⟨2, ![32768, 1024]⟩
abbrev S2 : Shape := ⟨1, ![2]⟩
abbrev S16 : Shape := ⟨1, ![16]⟩
abbrev S2x1024x2048 : Shape := ⟨3, ![2, 1024, 2048]⟩
abbrev S2x1024x1024 : Shape := ⟨3, ![2, 1024, 1024]⟩
abbrev S1 : Shape := ⟨1, ![1]⟩
abbrev S_ : Shape := ⟨0, ![]⟩
abbrev S1x1024x2048 : Shape := ⟨3, ![1, 1024, 2048]⟩
abbrev S1024x2048 : Shape := ⟨2, ![1024, 2048]⟩
abbrev S1x1024x1024 : Shape := ⟨3, ![1, 1024, 1024]⟩
abbrev S1024x1024 : Shape := ⟨2, ![1024, 1024]⟩

abbrev nBuf : Space → Nat
  | .hbm => 2
  | .vmem => 3
  | .smem => 0
  | _ => 0

abbrev bufTy : (tb : Table) → Fin (tcTables nBuf tb) → BufTy
  | .hbm, ⟨0, _⟩ => ⟨S16384x2048, .f32⟩
  | .hbm, ⟨1, _⟩ => ⟨S32768x1024, .bf16⟩
  | .local _ .vmem, ⟨0, _⟩ => ⟨S2x1024x2048, .f32⟩
  | .local _ .vmem, ⟨1, _⟩ => ⟨S2x1024x1024, .bf16⟩
  | .local _ .vmem, ⟨2, _⟩ => ⟨S2x1024x1024, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  (ofTc nBuf bufTy 1 36 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch4 : Ref sig .tc := ⟨.vmem, 0, rfl⟩
abbrev cc0_scratch5 : Ref sig .tc := ⟨.vmem, 1, rfl⟩
abbrev cc0_scratch6 : Ref sig .tc := ⟨.vmem, 2, rfl⟩
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_11 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_10 : BitVec 32 := 4#32
  let v16 : BitVec 32 := Scalar.muli v9 c4_i32_10
  let v17 : BitVec 32 := Scalar.addi c0_i32_11 v16
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_12 : BitVec 32 := 2#32
  let v18 : BitVec 32 := Scalar.muli v5 c2_i32_12
  let v19 : BitVec 32 := Scalar.addi v17 v18
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_13 : BitVec 32 := 1#32
  let v20 : BitVec 32 := Scalar.muli v8 c1_i32_13
  let v21 : BitVec 32 := Scalar.addi v19 v20
  v21.toNat
def k0_off1 (d0 : Dev nD) (c0_i32_30 : BitVec 32) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c16384_i32 : BitVec 32 := 16384#32
  let v38 : BitVec 32 := Scalar.muli v2 c16384_i32
  let v39 : BitVec 32 := Scalar.addi v38 c0_i32_30
  let c0_i32_38 : BitVec 32 := 0#32
  ![v39.toNat, 0]
def k0_dev2 (d0 : Dev nD) : Nat :=
  let c0_i32_35 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_34 : BitVec 32 := 4#32
  let v40 : BitVec 32 := Scalar.muli v9 c4_i32_34
  let v41 : BitVec 32 := Scalar.addi c0_i32_35 v40
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_36 : BitVec 32 := 2#32
  let v42 : BitVec 32 := Scalar.muli v5 c2_i32_36
  let v43 : BitVec 32 := Scalar.addi v41 v42
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_37 : BitVec 32 := 1#32
  let v44 : BitVec 32 := Scalar.muli v8 c1_i32_37
  let v45 : BitVec 32 := Scalar.addi v43 v44
  v45.toNat
def k0_dev3 (d0 : Dev nD) : Nat :=
  let c0_i32_69 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_68 : BitVec 32 := 4#32
  let v78 : BitVec 32 := Scalar.muli v9 c4_i32_68
  let v79 : BitVec 32 := Scalar.addi c0_i32_69 v78
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_70 : BitVec 32 := 2#32
  let v80 : BitVec 32 := Scalar.muli v5 c2_i32_70
  let v81 : BitVec 32 := Scalar.addi v79 v80
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_71 : BitVec 32 := 1#32
  let v82 : BitVec 32 := Scalar.muli v8 c1_i32_71
  let v83 : BitVec 32 := Scalar.addi v81 v82
  v83.toNat
def k0_dev4 (d0 : Dev nD) : Nat :=
  let c0_i32_119 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_118 : BitVec 32 := 4#32
  let v130 : BitVec 32 := Scalar.muli v9 c4_i32_118
  let v131 : BitVec 32 := Scalar.addi c0_i32_119 v130
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_120 : BitVec 32 := 2#32
  let v132 : BitVec 32 := Scalar.muli v5 c2_i32_120
  let v133 : BitVec 32 := Scalar.addi v131 v132
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_121 : BitVec 32 := 1#32
  let v134 : BitVec 32 := Scalar.muli v8 c1_i32_121
  let v135 : BitVec 32 := Scalar.addi v133 v134
  v135.toNat
def k0_dev5 (d0 : Dev nD) : Nat :=
  let c0_i32_168 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_167 : BitVec 32 := 4#32
  let v182 : BitVec 32 := Scalar.muli v9 c4_i32_167
  let v183 : BitVec 32 := Scalar.addi c0_i32_168 v182
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_169 : BitVec 32 := 2#32
  let v184 : BitVec 32 := Scalar.muli v5 c2_i32_169
  let v185 : BitVec 32 := Scalar.addi v183 v184
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_170 : BitVec 32 := 1#32
  let v186 : BitVec 32 := Scalar.muli v8 c1_i32_170
  let v187 : BitVec 32 := Scalar.addi v185 v186
  v187.toNat
def k0_dev6 (d0 : Dev nD) : Nat :=
  let c0_i32_218 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_217 : BitVec 32 := 4#32
  let v234 : BitVec 32 := Scalar.muli v9 c4_i32_217
  let v235 : BitVec 32 := Scalar.addi c0_i32_218 v234
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_219 : BitVec 32 := 2#32
  let v236 : BitVec 32 := Scalar.muli v5 c2_i32_219
  let v237 : BitVec 32 := Scalar.addi v235 v236
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_220 : BitVec 32 := 1#32
  let v238 : BitVec 32 := Scalar.muli v8 c1_i32_220
  let v239 : BitVec 32 := Scalar.addi v237 v238
  v239.toNat
def k0_dev7 (d0 : Dev nD) : Nat :=
  let c0_i32_267 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_266 : BitVec 32 := 4#32
  let v286 : BitVec 32 := Scalar.muli v9 c4_i32_266
  let v287 : BitVec 32 := Scalar.addi c0_i32_267 v286
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_268 : BitVec 32 := 2#32
  let v288 : BitVec 32 := Scalar.muli v5 c2_i32_268
  let v289 : BitVec 32 := Scalar.addi v287 v288
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_269 : BitVec 32 := 1#32
  let v290 : BitVec 32 := Scalar.muli v8 c1_i32_269
  let v291 : BitVec 32 := Scalar.addi v289 v290
  v291.toNat
def k0_dev8 (d0 : Dev nD) : Nat :=
  let c0_i32_316 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_315 : BitVec 32 := 4#32
  let v338 : BitVec 32 := Scalar.muli v9 c4_i32_315
  let v339 : BitVec 32 := Scalar.addi c0_i32_316 v338
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_317 : BitVec 32 := 2#32
  let v340 : BitVec 32 := Scalar.muli v5 c2_i32_317
  let v341 : BitVec 32 := Scalar.addi v339 v340
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_318 : BitVec 32 := 1#32
  let v342 : BitVec 32 := Scalar.muli v8 c1_i32_318
  let v343 : BitVec 32 := Scalar.addi v341 v342
  v343.toNat
def k0_dev9 (d0 : Dev nD) : Nat :=
  let c0_i32_365 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_364 : BitVec 32 := 4#32
  let v390 : BitVec 32 := Scalar.muli v9 c4_i32_364
  let v391 : BitVec 32 := Scalar.addi c0_i32_365 v390
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_366 : BitVec 32 := 2#32
  let v392 : BitVec 32 := Scalar.muli v5 c2_i32_366
  let v393 : BitVec 32 := Scalar.addi v391 v392
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_367 : BitVec 32 := 1#32
  let v394 : BitVec 32 := Scalar.muli v8 c1_i32_367
  let v395 : BitVec 32 := Scalar.addi v393 v394
  v395.toNat
def k0_dev10 (d0 : Dev nD) : Nat :=
  let c0_i32_414 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_413 : BitVec 32 := 4#32
  let v442 : BitVec 32 := Scalar.muli v9 c4_i32_413
  let v443 : BitVec 32 := Scalar.addi c0_i32_414 v442
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_415 : BitVec 32 := 2#32
  let v444 : BitVec 32 := Scalar.muli v5 c2_i32_415
  let v445 : BitVec 32 := Scalar.addi v443 v444
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_416 : BitVec 32 := 1#32
  let v446 : BitVec 32 := Scalar.muli v8 c1_i32_416
  let v447 : BitVec 32 := Scalar.addi v445 v446
  v447.toNat
def k0_dev11 (d0 : Dev nD) : Nat :=
  let c0_i32_463 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_462 : BitVec 32 := 4#32
  let v494 : BitVec 32 := Scalar.muli v9 c4_i32_462
  let v495 : BitVec 32 := Scalar.addi c0_i32_463 v494
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_464 : BitVec 32 := 2#32
  let v496 : BitVec 32 := Scalar.muli v5 c2_i32_464
  let v497 : BitVec 32 := Scalar.addi v495 v496
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_465 : BitVec 32 := 1#32
  let v498 : BitVec 32 := Scalar.muli v8 c1_i32_465
  let v499 : BitVec 32 := Scalar.addi v497 v498
  v499.toNat
def k0_dev12 (d0 : Dev nD) : Nat :=
  let c0_i32_512 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_511 : BitVec 32 := 4#32
  let v546 : BitVec 32 := Scalar.muli v9 c4_i32_511
  let v547 : BitVec 32 := Scalar.addi c0_i32_512 v546
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_513 : BitVec 32 := 2#32
  let v548 : BitVec 32 := Scalar.muli v5 c2_i32_513
  let v549 : BitVec 32 := Scalar.addi v547 v548
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_514 : BitVec 32 := 1#32
  let v550 : BitVec 32 := Scalar.muli v8 c1_i32_514
  let v551 : BitVec 32 := Scalar.addi v549 v550
  v551.toNat
def k0_dev13 (d0 : Dev nD) : Nat :=
  let c0_i32_561 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_560 : BitVec 32 := 4#32
  let v598 : BitVec 32 := Scalar.muli v9 c4_i32_560
  let v599 : BitVec 32 := Scalar.addi c0_i32_561 v598
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_562 : BitVec 32 := 2#32
  let v600 : BitVec 32 := Scalar.muli v5 c2_i32_562
  let v601 : BitVec 32 := Scalar.addi v599 v600
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_563 : BitVec 32 := 1#32
  let v602 : BitVec 32 := Scalar.muli v8 c1_i32_563
  let v603 : BitVec 32 := Scalar.addi v601 v602
  v603.toNat
def k0_dev14 (d0 : Dev nD) : Nat :=
  let c0_i32_610 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_609 : BitVec 32 := 4#32
  let v650 : BitVec 32 := Scalar.muli v9 c4_i32_609
  let v651 : BitVec 32 := Scalar.addi c0_i32_610 v650
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_611 : BitVec 32 := 2#32
  let v652 : BitVec 32 := Scalar.muli v5 c2_i32_611
  let v653 : BitVec 32 := Scalar.addi v651 v652
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_612 : BitVec 32 := 1#32
  let v654 : BitVec 32 := Scalar.muli v8 c1_i32_612
  let v655 : BitVec 32 := Scalar.addi v653 v654
  v655.toNat
def k0_dev15 (d0 : Dev nD) : Nat :=
  let c0_i32_659 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_658 : BitVec 32 := 4#32
  let v702 : BitVec 32 := Scalar.muli v9 c4_i32_658
  let v703 : BitVec 32 := Scalar.addi c0_i32_659 v702
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_660 : BitVec 32 := 2#32
  let v704 : BitVec 32 := Scalar.muli v5 c2_i32_660
  let v705 : BitVec 32 := Scalar.addi v703 v704
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_661 : BitVec 32 := 1#32
  let v706 : BitVec 32 := Scalar.muli v8 c1_i32_661
  let v707 : BitVec 32 := Scalar.addi v705 v706
  v707.toNat
def k0_dev16 (d0 : Dev nD) : Nat :=
  let c0_i32_708 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_707 : BitVec 32 := 4#32
  let v754 : BitVec 32 := Scalar.muli v9 c4_i32_707
  let v755 : BitVec 32 := Scalar.addi c0_i32_708 v754
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_709 : BitVec 32 := 2#32
  let v756 : BitVec 32 := Scalar.muli v5 c2_i32_709
  let v757 : BitVec 32 := Scalar.addi v755 v756
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_710 : BitVec 32 := 1#32
  let v758 : BitVec 32 := Scalar.muli v8 c1_i32_710
  let v759 : BitVec 32 := Scalar.addi v757 v758
  v759.toNat
def k0_dev17 (d0 : Dev nD) : Nat :=
  let c0_i32_752 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_751 : BitVec 32 := 4#32
  let v801 : BitVec 32 := Scalar.muli v9 c4_i32_751
  let v802 : BitVec 32 := Scalar.addi c0_i32_752 v801
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_753 : BitVec 32 := 2#32
  let v803 : BitVec 32 := Scalar.muli v5 c2_i32_753
  let v804 : BitVec 32 := Scalar.addi v802 v803
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_754 : BitVec 32 := 1#32
  let v805 : BitVec 32 := Scalar.muli v8 c1_i32_754
  let v806 : BitVec 32 := Scalar.addi v804 v805
  v806.toNat
def k0_off2 (d0 : Dev nD) (c0_i32_798 : BitVec 32) : Fin 2 → Nat :=
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c16384_i32_797 : BitVec 32 := 16384#32
  let v849 : BitVec 32 := Scalar.muli v9 c16384_i32_797
  let v850 : BitVec 32 := Scalar.addi v849 c0_i32_798
  let c0_i32_806 : BitVec 32 := 0#32
  ![v850.toNat, 0]
-- ==== ReferenceIdeal.lean ====
abbrev S32768x2048 : Shape := ⟨2, ![32768, 2048]⟩

abbrev nBuf : Space → Nat
  | .hbm => 2
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S32768x2048, .bf16⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Proof.Prog.lean ====
/-
  The kernel's body as a program of sixteen equal steps. The printed body is one straight line, cut into parts that do
  not fall on the steps; here each step is written once, at a symbolic step `s` and a symbolic device `d`, and
  `body_eq` states that the printed body is the sequence of them. The two branches the body takes on its place along
  the mesh's `x` axis leave one column offset each, which `locCol` and `remCol` name.
-/
module

public import proofs.«01_k».proof.Proof.Gen.KernelIdeal
public import proofs.«01_k».proof.Proof.Gen.KernelIdeal.Skeleton
public import proofs.«01_k».proof.Proof.Gen.KernelIdeal.Points
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.AllToAll

open Cert.KernelIdeal Cert.KernelIdeal.Gen
open Idealize.ShloMosaic Idealize.ShloMosaic.TcCoe
open Idealize.SL.Sem

variable {F : FTy → Type} [FloatOps F]

/-! ## The buffers and their parts -/

abbrev xM : Memref sig .tc .hbm S16384x2048 .f32 := Memref.whole main_arg0
abbrev oM : Memref sig .tc .hbm S32768x1024 .bf16 := Memref.whole main_v1
abbrev inM : Memref sig .tc .vmem S2x1024x2048 .f32 := Memref.whole cc0_scratch4
abbrev locM : Memref sig .tc .vmem S2x1024x1024 .bf16 := Memref.whole cc0_scratch5
abbrev remM : Memref sig .tc .vmem S2x1024x1024 .bf16 := Memref.whole cc0_scratch6

/-- The double-buffering slot step `s` uses. -/
def sl (s : Fin 16) : Fin 2 := ⟨s.val % 2, Nat.mod_lt _ (by decide)⟩

theorem xInb (s : Fin 16) : ∀ a, (![1024 * s.val, 0] : Fin 2 → Nat) a + S1024x2048.size a ≤ S16384x2048.size a := by
  revert s; decide
theorem inInb (b : Fin 2) : ∀ a, (![b.val, 0, 0] : Fin 3 → Nat) a + S1x1024x2048.size a ≤ S2x1024x2048.size a := by
  revert b; decide
theorem slotInb (b : Fin 2) : ∀ a, (![b.val, 0, 0] : Fin 3 → Nat) a + S1x1024x1024.size a ≤ S2x1024x1024.size a := by
  revert b; decide
theorem colInb (b q : Fin 2) : ∀ a, (![b.val, 0, 1024 * q.val] : Fin 3 → Nat) a + S1x1024x1024.size a ≤ S2x1024x2048.size a := by
  revert b q; decide
theorem sem2Inb (b : Fin 2) : ∀ a, (![b.val] : Fin 1 → Nat) a + S1.size a ≤ S2.size a := by revert b; decide
theorem sem16Inb (s : Fin 16) : ∀ a, (![s.val] : Fin 1 → Nat) a + S1.size a ≤ S16.size a := by revert s; decide

/-- Rows `[1024 s, 1024 s + 1024)` of the argument. -/
def xChunk (s : Fin 16) : Memref sig .tc .hbm S1024x2048 .f32 :=
  xM.slice (Rect.unit (s := S16384x2048) ![1024 * s.val, 0] S1024x2048.size (xInb s)) (fun _ => rfl)
/-- Slot `b` of the staging buffer the argument's rows are copied into. -/
def inSlot (b : Fin 2) : Memref sig .tc .vmem S1024x2048 .f32 :=
  (inM.slice (Rect.unit (s := S2x1024x2048) ![b.val, 0, 0] S1x1024x2048.size (inInb b)) (fun _ => rfl)).squeeze S1024x2048 squeezes_S1x1024x2048_S1024x2048
/-- Slot `b` of the buffer of the half that stays. -/
def locSlot (b : Fin 2) : Memref sig .tc .vmem S1024x1024 .bf16 :=
  (locM.slice (Rect.unit (s := S2x1024x1024) ![b.val, 0, 0] S1x1024x1024.size (slotInb b)) (fun _ => rfl)).squeeze S1024x1024 squeezes_S1x1024x1024_S1024x1024
/-- Slot `b` of the buffer of the half that is sent. -/
def remSlot (b : Fin 2) : Memref sig .tc .vmem S1024x1024 .bf16 :=
  (remM.slice (Rect.unit (s := S2x1024x1024) ![b.val, 0, 0] S1x1024x1024.size (slotInb b)) (fun _ => rfl)).squeeze S1024x1024 squeezes_S1x1024x1024_S1024x1024
/-- The rows of a result that device `d` writes in step `s`: on its own result and on its peer's. -/
def oOut (d : Dev nD) (s : Fin 16) : Memref sig .tc .hbm S1024x1024 .bf16 :=
  oM.slice (Rect.unit (s := S32768x1024) (k0_off1 d (BitVec.ofNat 32 (1024 * s.val))) S1024x1024.size (k0_off1_inb d s)) (fun _ => rfl)
/-- The rows of its result that device `d` receives in its peer's step `s`. -/
def oIn (d : Dev nD) (s : Fin 16) : Memref sig .tc .hbm S1024x1024 .bf16 :=
  oM.slice (Rect.unit (s := S32768x1024) (k0_off2 d (BitVec.ofNat 32 (1024 * s.val))) S1024x1024.size (k0_off2_inb d s)) (fun _ => rfl)

/-- The semaphores: of slot `b`'s copies in and out, of step `s`'s transfer at the sender and at the receiver, and the
    runtime's barrier. -/
def inS (b : Fin 2) : DmaSem sig := ((cc0_scratch0.slice (Rect.unit (s := S2) ![b.val] S1.size (sem2Inb b))).squeeze S_ squeezes_S1_S_).sem
def outS (b : Fin 2) : DmaSem sig := ((cc0_scratch1.slice (Rect.unit (s := S2) ![b.val] S1.size (sem2Inb b))).squeeze S_ squeezes_S1_S_).sem
def sendS (s : Fin 16) : DmaSem sig := ((cc0_scratch2.slice (Rect.unit (s := S16) ![s.val] S1.size (sem16Inb s))).squeeze S_ squeezes_S1_S_).sem
def recvS (s : Fin 16) : DmaSem sig := ((cc0_scratch3.slice (Rect.unit (s := S16) ![s.val] S1.size (sem16Inb s))).squeeze S_ squeezes_S1_S_).sem
abbrev barS : Sem sig := (SemArray.scalar (sig.barrier 0 rfl) : Sems sig S_).sem

/-! ## Every end of a copy is whole words, every store exact -/

theorem inWE (b : Fin 2) : (inSlot b).view.WordExact := (View.wordExact_bits rfl).reshape _ _
theorem xWE (s : Fin 16) : (xChunk s).view.WordExact := View.wordExact_bits rfl
theorem slotWords (b : Fin 2) : (Rect.unit (s := S2x1024x1024) ![b.val, 0, 0] S1x1024x1024.size (slotInb b)).WholeWords (EltTy.packing .bf16) :=
  match b with | 0 => wordsbf16_S2x1024x1024_S1x1024x1024_0_0_0 | 1 => wordsbf16_S2x1024x1024_S1x1024x1024_1_0_0
theorem slotPacked (b : Fin 2) : (Rect.unit (s := S2x1024x1024) ![b.val, 0, 0] S1x1024x1024.size (slotInb b)).PackedRows (EltTy.packing .bf16) :=
  match b with | 0 => packedbf16_S2x1024x1024_S1x1024x1024_0_0_0 | 1 => packedbf16_S2x1024x1024_S1x1024x1024_1_0_0
theorem locWE (b : Fin 2) : (locSlot b).view.WordExact := ((Memref.isWhole_whole cc0_scratch5).wordExact_slice rfl _ (slotWords b)).reshape _ _
theorem remWE (b : Fin 2) : (remSlot b).view.WordExact := ((Memref.isWhole_whole cc0_scratch6).wordExact_slice rfl _ (slotWords b)).reshape _ _
theorem oOutWE (d : Dev nD) (s : Fin 16) : (oOut d s).view.WordExact :=
  (Memref.isWhole_whole main_v1).wordExact_slice rfl _ (k0_off1_wordsbf16 d s)
theorem oInWE (d : Dev nD) (s : Fin 16) : (oIn d s).view.WordExact :=
  (Memref.isWhole_whole main_v1).wordExact_slice rfl _ (k0_off2_wordsbf16 d s)

/-! ## One step -/

/-- A device's place along the mesh's `x` axis, and the other place. -/
def xp (d : Dev nD) : Fin 2 := ⟨d.val / 4, by have : d.val < 8 := d.isLt; omega⟩
def xq (d : Dev nD) : Fin 2 := ⟨1 - d.val / 4, by omega⟩

/-- A slot of the buffer read by the body: half `q` of the rows copied in. -/
abbrev inHalf (b q : Fin 2) : Rect S2x1024x2048 := Rect.unit (s := S2x1024x2048) ![b.val, 0, 1024 * q.val] S1x1024x1024.size (colInb b q)
abbrev slotR (b : Fin 2) : Rect S2x1024x1024 := Rect.unit (s := S2x1024x1024) ![b.val, 0, 0] S1x1024x1024.size (slotInb b)

/-- The values a step stores: half the rows copied in, each rounded. -/
def pay (v : Vec F S1x1024x1024 .f32) : FVec F S1x1024x1024 .bf16 :=
  shapeCast S1x1024x1024 (truncf .bf16 (shapeCast S1024x1024 v shapeCasts_S1x1024x1024_S1024x1024) bitsLt_bf16_f32) shapeCasts_S1024x1024_S1x1024x1024

abbrev P (F : FTy → Type) : Type 1 := Prog (TpuEff nD τ sig (Elt F) Λ₀ .tc) PUnit

def waitInK (s : Fin 16) (k : P F) : P F := .op (.waitDma2 (inS (sl s)) (xChunk s) (inSlot (sl s)) (xWE s) (inWE _)) fun _ => k
def startInK (s : Fin 16) (k : P F) : P F :=
  .op (.enqueueDma (xChunk s) (.here (inSlot (sl s))) (.dma (inS (sl s))) (xWE s) (inWE _) ⟨Or.inl rfl, trivial⟩) fun _ => k
def waitSendK (d : Dev nD) (s : Fin 16) (k : P F) : P F := .op (.waitDma2 (sendS s) (oOut d s) (remSlot (sl s)) (oOutWE d s) (remWE _)) fun _ => k
def waitOutK (d : Dev nD) (s : Fin 16) (k : P F) : P F := .op (.waitDma2 (outS (sl s)) (locSlot (sl s)) (oOut d s) (locWE _) (oOutWE d s)) fun _ => k
def waitRecvK (d : Dev nD) (s : Fin 16) (k : P F) : P F := .op (.waitDma2 (recvS s) (remSlot (sl s)) (oIn d s) (remWE _) (oInWE d s)) fun _ => k
def sendK (d : Dev nD) (s : Fin 16) (k : P F) : P F :=
  .op (.enqueueDma (remSlot (sl s)) (.remote (Dev.tc (⟨k0_dev2 d, k0_dev2_lt d⟩ : Dev nD)) (oOut d s) (.dma (sendS s))) (.dma (recvS s)) (remWE _) (oOutWE d s)
    ⟨⟨rfl, Or.inl rfl⟩, trivial⟩) fun _ => k
def startOutK (d : Dev nD) (s : Fin 16) (k : P F) : P F :=
  .op (.enqueueDma (locSlot (sl s)) (.here (oOut d s)) (.dma (outS (sl s))) (locWE _) (oOutWE d s) ⟨Or.inl rfl, trivial⟩) fun _ => k

/-- Fill slot `b` of the two half buffers from slot `b` of the rows copied in: columns of half `p` stay, those of half `q`
    are sent. -/
def fillK (b p q : Fin 2) (k : P F) : P F :=
  .op (.load inM (inHalf b p).toLoadRect (View.loadsAt_vmem h_S1x1024x1024)) fun v =>
  .op (.load locM (slotR b).toLoadRect (View.loadsAt_vmem h_S1x1024x1024)) fun _ =>
  .op (.store locM (slotR b) (pay v) Finset.univ
    (View.stores_vmem h_S1x1024x1024 ((Memref.isWhole_whole cc0_scratch5).storeExact_slice rfl _ (slotPacked b)) (fun _ => rfl)) (.inl rfl)) fun _ =>
  .op (.load inM (inHalf b q).toLoadRect (View.loadsAt_vmem h_S1x1024x1024)) fun w =>
  .op (.load remM (slotR b).toLoadRect (View.loadsAt_vmem h_S1x1024x1024)) fun _ =>
  .op (.store remM (slotR b) (pay w) Finset.univ
    (View.stores_vmem h_S1x1024x1024 ((Memref.isWhole_whole cc0_scratch6).storeExact_slice rfl _ (slotPacked b)) (fun _ => rfl)) (.inl rfl)) fun _ => k

/-- Fetch the next step's rows, if there is a next step. -/
def nextK (s : Fin 16) (k : P F) : P F := if h : s.val + 1 < 16 then startInK ⟨s.val + 1, h⟩ k else k
/-- From the third step on: wait until the slot's earlier transfer and copy have left it. -/
def freeK (d : Dev nD) (s : Fin 16) (k : P F) : P F :=
  if h : 2 ≤ s.val then waitSendK d ⟨s.val - 2, by omega⟩ (waitOutK d ⟨s.val - 2, by omega⟩ k) else k

def stepK (d : Dev nD) (s : Fin 16) (k : P F) : P F :=
  waitInK s (nextK s (freeK d s (fillK (sl s) (xp d) (xq d) (sendK d s (startOutK d s k)))))

/-- Steps `0` to `n - 1`, then `k`. -/
def steps (d : Dev nD) : (n : ℕ) → n ≤ 16 → P F → P F
  | 0, _, k => k
  | n + 1, h, k => steps d n (Nat.le_of_succ_le h) (stepK d ⟨n, h⟩ k)
/-- The receipts of steps `0` to `n - 1`, then `k`. -/
def recvs (d : Dev nD) : (n : ℕ) → n ≤ 16 → P F → P F
  | 0, _, k => k
  | n + 1, h, k => recvs d n (Nat.le_of_succ_le h) (waitRecvK d ⟨n, h⟩ k)

/-- The body after it has read which device it runs on. -/
def bodyK (d : Dev nD) : P F :=
  startInK 0 (.op (.semSignal ((⟨k0_dev1 d, k0_dev1_lt d⟩ : Dev nD), .tc) barS (1#32).toInt) fun _ => .op (.semWait barS (1#32).toInt) fun _ =>
    steps d 16 (Nat.le_refl _) (waitSendK d 14 (waitOutK d 14 (waitSendK d 15 (waitOutK d 15 (recvs d 16 (Nat.le_refl _) (.ret ⟨⟩)))))))

end Cert.AllToAll

end
-- ==== Proof.Contents.lean ====
/-
  What each buffer of the kernel holds when. `outC` is the result; `inC` and `halfC` are the staging buffers after step
  `s`'s fetch and fill. Each transfer and store, read on the elements it writes, makes exactly these contents.
-/
module

public import proofs.«01_k».proof.Proof.Prog
public import Idealize.ShloMosaic.Lib.ValueLayout
public import Idealize.ShloMosaic.Lib.Pipeline.Value
public import Idealize.ShloMosaic.Lib.ViewIndex

@[expose] public section

noncomputable section

namespace Cert.AllToAll

open Cert.KernelIdeal Cert.KernelIdeal.Gen
open Idealize.ShloMosaic Idealize.ShloMosaic.TcCoe
open Idealize.SL.Sem
open Idealize.ShloMosaic.ValueIdx

variable {F : FTy → Type} [FloatOps F]

/-! ## The peer -/

/-- The device at the other place along `x`, at the same places along `y` and `z`. -/
def peer (c : Dev nD) : Dev nD := ⟨(c.val + 4) % 8, Nat.mod_lt _ (by decide)⟩

theorem peer_peer (c : Dev nD) : peer (peer c) = c := by revert c; decide
theorem peer_ne (c : Dev nD) : peer c ≠ c := by revert c; decide
theorem dev1_eq (c : Dev nD) : (⟨k0_dev1 c, k0_dev1_lt c⟩ : Dev nD) = peer c := by
  refine Fin.ext ((k0_dev1_eq c).trans ?_); revert c; decide
theorem dev2_eq (c : Dev nD) : (⟨k0_dev2 c, k0_dev2_lt c⟩ : Dev nD) = peer c := by
  refine Fin.ext ((k0_dev2_eq c).trans ?_); revert c; decide
theorem xp_peer (c : Dev nD) : xp (peer c) = xq c := by revert c; decide
theorem xq_peer (c : Dev nD) : xq (peer c) = xp c := by revert c; decide
theorem xp_ne_peer (c : Dev nD) : ¬ c.val / 4 = (peer c).val / 4 := by revert c; decide
theorem xq_val (c : Dev nD) : (xq c).val = 1 - (xp c).val := rfl
theorem xp_val (c : Dev nD) : (xp c).val = c.val / 4 := rfl

/-! ## The contents -/

variable (m : (ℓ : Loc nD τ sig) → Buf (Elt F) ℓ)

/-- A value rounded from `f32` to `bf16`. -/
def rnd (x : Elt F .f32) : Elt F .bf16 := FloatOps.truncf (F := F) .bf16 bitsLt_bf16_f32 x

/-- Device `c`'s block of the argument. -/
def X (c : Dev nD) : S16384x2048.Idx → Elt F .f32 := m ((c : Thread nD τ).loc main_arg0)

/-- The staging buffer holding step `s`'s rows. -/
def inC (c : Dev nD) (s : Fin 16) : S2x1024x2048.Idx → Elt F .f32 := fun i =>
  X m c (ix2 ⟨1024 * s.val + (i 1).val, by have : (i 1).val < 1024 := (i 1).isLt; have := s.isLt; omega⟩ (i 2))
/-- A half buffer holding half `q` of step `s`'s rows, rounded. -/
def halfC (c : Dev nD) (s : Fin 16) (q : Fin 2) : S2x1024x1024.Idx → Elt F .bf16 := fun i =>
  rnd (X m c (ix2 ⟨1024 * s.val + (i 1).val, by have : (i 1).val < 1024 := (i 1).isLt; have := s.isLt; omega⟩
    ⟨1024 * q.val + (i 2).val, by have : (i 2).val < 1024 := (i 2).isLt; have := q.isLt; omega⟩))
/-- Which device row `r` of device `c`'s result comes from. -/
def srcDev (c : Dev nD) (r : ℕ) : Dev nD := if r / 16384 = c.val / 4 then c else peer c
/-- Device `c`'s result: its block of columns of every row, rounded. -/
def outC (c : Dev nD) : S32768x1024.Idx → Elt F .bf16 := fun i =>
  rnd (X m (srcDev c (i 0).val) (ix2 ⟨(i 0).val % 16384, Nat.mod_lt _ (by decide)⟩
    ⟨1024 * (xp c).val + (i 1).val, by have : (i 1).val < 1024 := (i 1).isLt; have := (xp c).isLt; omega⟩))

/-! ## Where each view's elements lie -/

theorem xChunk_emb (s : Fin 16) (j : S1024x2048.Idx) :
    ((xChunk s).view.emb j : S16384x2048.Idx)
      = ix2 ⟨1024 * s.val + (j 0).val, by have : (j 0).val < 1024 := (j 0).isLt; have := s.isLt; omega⟩ (j 1) := by
  refine funext fun a => Fin.ext ?_
  match a with
  | ⟨0, _⟩ => show 1024 * s.val + 1 * (j 0).val = 1024 * s.val + (j 0).val; omega
  | ⟨1, _⟩ => show 0 + 1 * (j 1).val = (j 1).val; omega

theorem inSlot_emb (b : Fin 2) (j : S1024x2048.Idx) : ((inSlot b).view.emb j : S2x1024x2048.Idx) = ix3 b (j 0) (j 1) := by
  have h : Shape.reshapeEquiv (s := S1x1024x2048) (s' := S1024x2048) (Shape.Squeezes.numel_eq squeezes_S1x1024x2048_S1024x2048) j
      = ix3 (⟨0, Nat.one_pos⟩ : Fin 1) (j 0) (j 1) :=
    (congrArg _ (eq_ix2 j)).trans (reshapeEquiv_ix2_1ab _ (j 0) (j 1))
  refine (congrArg (Rect.unit (s := S2x1024x2048) ![b.val, 0, 0] S1x1024x2048.size (inInb b)).emb h).trans ?_
  refine funext fun a => Fin.ext ?_
  match a with
  | ⟨0, _⟩ => show b.val + 1 * 0 = b.val; omega
  | ⟨1, _⟩ => show 0 + 1 * (j 0).val = (j 0).val; omega
  | ⟨2, _⟩ => show 0 + 1 * (j 1).val = (j 1).val; omega

theorem slotR_emb (b : Fin 2) (j : S1x1024x1024.Idx) : ((slotR b).emb j : S2x1024x1024.Idx) = ix3 b (j 1) (j 2) := by
  have h0 : (j 0).val < 1 := (j 0).isLt
  refine funext fun a => Fin.ext ?_
  match a with
  | ⟨0, _⟩ => show b.val + 1 * (j 0).val = b.val; omega
  | ⟨1, _⟩ => show 0 + 1 * (j 1).val = (j 1).val; omega
  | ⟨2, _⟩ => show 0 + 1 * (j 2).val = (j 2).val; omega

theorem inHalf_emb (b q : Fin 2) (j : S1x1024x1024.Idx) :
    ((inHalf b q).emb j : S2x1024x2048.Idx)
      = ix3 b (j 1) ⟨1024 * q.val + (j 2).val, by have : (j 2).val < 1024 := (j 2).isLt; have := q.isLt; omega⟩ := by
  have h0 : (j 0).val < 1 := (j 0).isLt
  refine funext fun a => Fin.ext ?_
  match a with
  | ⟨0, _⟩ => show b.val + 1 * (j 0).val = b.val; omega
  | ⟨1, _⟩ => show 0 + 1 * (j 1).val = (j 1).val; omega
  | ⟨2, _⟩ => show 1024 * q.val + 1 * (j 2).val = 1024 * q.val + (j 2).val; omega

theorem locSlot_emb (b : Fin 2) (j : S1024x1024.Idx) : ((locSlot b).view.emb j : S2x1024x1024.Idx) = ix3 b (j 0) (j 1) := by
  have h : Shape.reshapeEquiv (s := S1x1024x1024) (s' := S1024x1024) (Shape.Squeezes.numel_eq squeezes_S1x1024x1024_S1024x1024) j
      = ix3 (⟨0, Nat.one_pos⟩ : Fin 1) (j 0) (j 1) :=
    (congrArg _ (eq_ix2 j)).trans (reshapeEquiv_ix2_1ab _ (j 0) (j 1))
  exact (congrArg (slotR b).emb h).trans (slotR_emb b _)
theorem remSlot_emb (b : Fin 2) (j : S1024x1024.Idx) : ((remSlot b).view.emb j : S2x1024x1024.Idx) = ix3 b (j 0) (j 1) :=
  locSlot_emb b j

theorem oOut_emb (d : Dev nD) (s : Fin 16) (j : S1024x1024.Idx) :
    ((oOut d s).view.emb j : S32768x1024.Idx)
      = ix2 ⟨16384 * (xp d).val + 1024 * s.val + (j 0).val, by
          have : (j 0).val < 1024 := (j 0).isLt; have := s.isLt; have := (xp d).isLt; omega⟩ (j 1) := by
  refine funext fun a => Fin.ext ?_
  match a with
  | ⟨0, _⟩ =>
    show (k0_off1 d (BitVec.ofNat 32 (1024 * s.val))) 0 + 1 * (j 0).val = 16384 * (xp d).val + 1024 * s.val + (j 0).val
    rw [k0_off1_eq]; show 16384 * (d.val / 4) + 1024 * s.val + 1 * (j 0).val = _; rw [xp_val]; omega
  | ⟨1, _⟩ =>
    show (k0_off1 d (BitVec.ofNat 32 (1024 * s.val))) 1 + 1 * (j 1).val = (j 1).val
    rw [k0_off1_eq]; show 0 + 1 * (j 1).val = _; omega

/-! ## What each transfer and store makes -/

/-- Step `s`'s fetch, on its slot: that step's rows. -/
theorem fetch_eq (c : Dev nD) (s : Fin 16) (b : Fin 2) (fd : S2x1024x2048.Idx → Elt F .f32) (i : S2x1024x2048.Idx) (hi : i ∈ (inSlot b).view.set) :
    (inSlot b).view.write (Elt F) fd ((xChunk s).view.read (Elt F) (X m c)) Finset.univ i = inC m c s i := by
  obtain ⟨j, -, rfl⟩ := Finset.mem_map.mp hi
  refine (View.write_emb_of_mem (v := (inSlot b).view) fd _ (Finset.mem_univ j)).trans ?_
  show X m c ((xChunk s).view.emb j : S16384x2048.Idx) = inC m c s ((inSlot b).view.emb j : S2x1024x2048.Idx)
  rw [xChunk_emb, inSlot_emb]; rfl

/-- What the body reads of half `q` of a slot. -/
theorem readHalf (c : Dev nD) (s : Fin 16) (b q : Fin 2) (j : S1x1024x1024.Idx) :
    inM.view.readAt (Elt F) (inHalf b q).toLoadRect (inC m c s) j
      = X m c (ix2 ⟨1024 * s.val + (j 1).val, by have : (j 1).val < 1024 := (j 1).isLt; have := s.isLt; omega⟩
          ⟨1024 * q.val + (j 2).val, by have : (j 2).val < 1024 := (j 2).isLt; have := q.isLt; omega⟩) := by
  show inC m c s ((inHalf b q).emb j) = _
  rw [inHalf_emb]; rfl

omit m in
/-- The stored values, element by element: the values read, rounded. -/
theorem pay_apply (v : Vec F S1x1024x1024 .f32) (j : S1x1024x1024.Idx) : pay v j = rnd (v j) := by
  have h := congrFun (shapeCast_shapeCast (s := S1x1024x1024) (t := S1024x1024) v shapeCasts_S1x1024x1024_S1024x1024 shapeCasts_S1024x1024_S1x1024x1024) j
  show rnd (shapeCast S1x1024x1024 (shapeCast S1024x1024 v shapeCasts_S1x1024x1024_S1024x1024) shapeCasts_S1024x1024_S1x1024x1024 j) = rnd (v j)
  rw [h]

/-- A fill, on its slot: half `q` of step `s`'s rows, rounded. -/
theorem fillLoc_eq (c : Dev nD) (s : Fin 16) (b q : Fin 2) (fd : S2x1024x1024.Idx → Elt F .bf16) (i : S2x1024x1024.Idx) (hi : i ∈ (locSlot b).view.set) :
    (locM.access (slotR b)).write (Elt F) fd (pay (inM.view.readAt (Elt F) (inHalf b q).toLoadRect (inC m c s))) Finset.univ i = halfC m c s q i := by
  have hi' : i ∈ (locM.access (slotR b)).set := by
    have h : (locSlot b).view.set = (locM.access (slotR b)).set := View.set_reshape _ _
    rw [← h]; exact hi
  obtain ⟨j, -, rfl⟩ := Finset.mem_map.mp hi'
  refine (View.write_emb_of_mem (v := locM.access (slotR b)) fd _ (Finset.mem_univ j)).trans ?_
  show pay (inM.view.readAt (Elt F) (inHalf b q).toLoadRect (inC m c s)) j = halfC m c s q ((slotR b).emb j : S2x1024x1024.Idx)
  rw [pay_apply, readHalf, slotR_emb]; rfl
theorem fillRem_eq (c : Dev nD) (s : Fin 16) (b q : Fin 2) (fd : S2x1024x1024.Idx → Elt F .bf16) (i : S2x1024x1024.Idx) (hi : i ∈ (remSlot b).view.set) :
    (remM.access (slotR b)).write (Elt F) fd (pay (inM.view.readAt (Elt F) (inHalf b q).toLoadRect (inC m c s))) Finset.univ i = halfC m c s q i := by
  have hi' : i ∈ (remM.access (slotR b)).set := by
    have h : (remSlot b).view.set = (remM.access (slotR b)).set := View.set_reshape _ _
    rw [← h]; exact hi
  obtain ⟨j, -, rfl⟩ := Finset.mem_map.mp hi'
  refine (View.write_emb_of_mem (v := remM.access (slotR b)) fd _ (Finset.mem_univ j)).trans ?_
  show pay (inM.view.readAt (Elt F) (inHalf b q).toLoadRect (inC m c s)) j = halfC m c s q ((slotR b).emb j : S2x1024x1024.Idx)
  rw [pay_apply, readHalf, slotR_emb]; rfl

/-- The result of device `e` at the rows that device `c` writes in step `s`, when those rows come from `c`: half `q` of
    `c`'s rows, `q` being `e`'s place along `x`. -/
theorem outC_at (c e : Dev nD) (s : Fin 16) (b : Fin 2) (he : e = c ∨ e = peer c) (j : S1024x1024.Idx) :
    halfC m c s (xp e) (ix3 b (j 0) (j 1)) = outC m e ((oOut c s).view.emb j : S32768x1024.Idx) := by
  have hj : (j 0).val < 1024 := (j 0).isLt
  have hs := s.isLt
  rw [oOut_emb]
  have hsrc : srcDev e (16384 * (xp c).val + 1024 * s.val + (j 0).val) = c := by
    have hd : (16384 * (xp c).val + 1024 * s.val + (j 0).val) / 16384 = (xp c).val := by omega
    unfold srcDev; rw [hd, xp_val]
    rcases he with rfl | rfl
    · rw [if_pos rfl]
    · rw [if_neg (xp_ne_peer c), peer_peer]
  have hm : (16384 * (xp c).val + 1024 * s.val + (j 0).val) % 16384 = 1024 * s.val + (j 0).val := by omega
  unfold halfC outC
  show rnd (X m c (ix2 ⟨1024 * s.val + (j 0).val, _⟩ ⟨1024 * (xp e).val + (j 1).val, _⟩))
    = rnd (X m (srcDev e (16384 * (xp c).val + 1024 * s.val + (j 0).val)) (ix2 ⟨(16384 * (xp c).val + 1024 * s.val + (j 0).val) % 16384, _⟩ ⟨1024 * (xp e).val + (j 1).val, _⟩))
  simp only [hsrc, hm]

/-- Step `s`'s copy out, on the rows it writes: the result. -/
theorem copyOut_eq (c : Dev nD) (s : Fin 16) (b : Fin 2) (fd : S32768x1024.Idx → Elt F .bf16) (i : S32768x1024.Idx) (hi : i ∈ (oOut c s).view.set) :
    (oOut c s).view.write (Elt F) fd ((locSlot b).view.read (Elt F) (halfC m c s (xp c))) Finset.univ i = outC m c i := by
  obtain ⟨j, -, rfl⟩ := Finset.mem_map.mp hi
  refine (View.write_emb_of_mem (v := (oOut c s).view) fd _ (Finset.mem_univ j)).trans ?_
  show halfC m c s (xp c) ((locSlot b).view.emb j : S2x1024x1024.Idx) = _
  rw [locSlot_emb]; exact outC_at m c c s b (.inl rfl) j

/-- Step `s`'s transfer, on the rows of the peer's result it writes: the peer's result. -/
theorem send_eq (c : Dev nD) (s : Fin 16) (b : Fin 2) (fd : S32768x1024.Idx → Elt F .bf16) (i : S32768x1024.Idx) (hi : i ∈ (oOut c s).view.set) :
    (oOut c s).view.write (Elt F) fd ((remSlot b).view.read (Elt F) (halfC m c s (xq c))) Finset.univ i = outC m (peer c) i := by
  obtain ⟨j, -, rfl⟩ := Finset.mem_map.mp hi
  refine (View.write_emb_of_mem (v := (oOut c s).view) fd _ (Finset.mem_univ j)).trans ?_
  show halfC m c s (xq c) ((remSlot b).view.emb j : S2x1024x1024.Idx) = _
  rw [remSlot_emb, ← xp_peer]; exact outC_at m c (peer c) s b (.inr rfl) j

end Cert.AllToAll

end
-- ==== Proof.Schedule.lean ====
/-
  The protocol's schedule: which semaphore receives how many units in which round, and what those units hand to the
  semaphore's owner. Every device owns two semaphores for its fetches (one per slot, eight rounds each), two for its
  copies out (likewise), sixteen for its transfers and sixteen for its peer's (one round each), and the barrier (one
  round, paid by the peer, handing over the rows of the peer's result the device is to write).
-/
module

public import proofs.«01_k».proof.Proof.Contents

@[expose] public section

noncomputable section

namespace Cert.AllToAll

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Cells -/

theorem inS_val (b : Fin 2) : (inS b).val = b.val := by revert b; decide
theorem outS_val (b : Fin 2) : (outS b).val = 2 + b.val := by revert b; decide
theorem sendS_val (s : Fin 16) : (sendS s).val = 4 + s.val := by revert s; decide
theorem recvS_val (s : Fin 16) : (recvS s).val = 20 + s.val := by revert s; decide

abbrev inCell (c : Dev nD) (b : Fin 2) : GSem nD τ sig := ((c : Thread nD τ), .dma (inS b))
abbrev outCell (c : Dev nD) (b : Fin 2) : GSem nD τ sig := ((c : Thread nD τ), .dma (outS b))
abbrev sendCell (c : Dev nD) (s : Fin 16) : GSem nD τ sig := ((c : Thread nD τ), .dma (sendS s))
abbrev recvCell (c : Dev nD) (s : Fin 16) : GSem nD τ sig := ((c : Thread nD τ), .dma (recvS s))
abbrev barCell (c : Dev nD) : GSem nD τ sig := ((c : Thread nD τ), .reg barS)

/-- The units a fetch and a copy of half a step's rows credit. -/
@[irreducible] def Nin : ℕ := (inSlot 0).view.dmaCredit
@[irreducible] def Nout : ℕ := (locSlot 0).view.dmaCredit
theorem Nin_pos : 0 < Nin := by unfold Nin; exact View.dmaCredit_pos _ (by decide)
theorem Nout_pos : 0 < Nout := by unfold Nout; exact View.dmaCredit_pos _ (by decide)
theorem Nin_eq (b : Fin 2) : (inSlot b).view.dmaCredit = Nin := by unfold Nin; rfl
theorem Nrem_eq (b : Fin 2) : (remSlot b).view.dmaCredit = Nout := by unfold Nout; rfl
theorem Nouts_eq (d : Dev nD) (s : Fin 16) : (oOut d s).view.dmaCredit = Nout := by unfold Nout; rfl
theorem Nins_eq (d : Dev nD) (s : Fin 16) : (oIn d s).view.dmaCredit = Nout := by unfold Nout; rfl

/-! ## What is held of each buffer -/

/-- Step `s`'s rows of device `c`'s argument. -/
def xPts (c : Dev nD) (s : Fin 16) : sProp 𝕄 := (xChunk s).view.loc (c : Thread nD τ) ↦[(xChunk s).view.set]{fullShare} X m c
/-- Slot `b` of device `c`'s staging buffer, at contents `f`. -/
def inPts (c : Dev nD) (b : Fin 2) (f : S2x1024x2048.Idx → Elt F .f32) : sProp 𝕄 :=
  (inSlot b).view.loc (c : Thread nD τ) ↦[(inSlot b).view.set]{fullShare} f
/-- Slot `b` of the buffer of the half that stays. -/
def locPts (c : Dev nD) (b : Fin 2) (f : S2x1024x1024.Idx → Elt F .bf16) : sProp 𝕄 :=
  (locSlot b).view.loc (c : Thread nD τ) ↦[(locSlot b).view.set]{fullShare} f
/-- Slot `b` of the buffer of the half that is sent. -/
def remPts (c : Dev nD) (b : Fin 2) (f : S2x1024x1024.Idx → Elt F .bf16) : sProp 𝕄 :=
  (remSlot b).view.loc (c : Thread nD τ) ↦[(remSlot b).view.set]{fullShare} f
/-- The rows of device `e`'s result that device `d` writes in step `s`. -/
def outPts (e d : Dev nD) (s : Fin 16) (f : S32768x1024.Idx → Elt F .bf16) : sProp 𝕄 :=
  (oOut d s).view.loc (e : Thread nD τ) ↦[(oOut d s).view.set]{fullShare} f

theorem pt_storable (ℓ : Loc nD τ sig) (I : Finset (Idx ℓ)) (q : PosShare TreeShare) (f : Buf (Elt F) ℓ) :
    BI.Storable (upEmb : UEmb _ 𝕄) (ℓ ↦[I]{q} f : sProp 𝕄) := inferInstance
instance xPts_storable (c : Dev nD) (s : Fin 16) : BI.Storable (upEmb : UEmb _ 𝕄) (xPts m c s) := by unfold xPts; exact pt_storable _ _ _ _
instance inPts_storable (c : Dev nD) (b : Fin 2) (f) : BI.Storable (upEmb : UEmb _ 𝕄) (inPts (F := F) c b f) := by unfold inPts; exact pt_storable _ _ _ _
instance locPts_storable (c : Dev nD) (b : Fin 2) (f) : BI.Storable (upEmb : UEmb _ 𝕄) (locPts (F := F) c b f) := by unfold locPts; exact pt_storable _ _ _ _
instance remPts_storable (c : Dev nD) (b : Fin 2) (f) : BI.Storable (upEmb : UEmb _ 𝕄) (remPts (F := F) c b f) := by unfold remPts; exact pt_storable _ _ _ _
instance outPts_storable (e d : Dev nD) (s : Fin 16) (f) : BI.Storable (upEmb : UEmb _ 𝕄) (outPts (F := F) e d s f) := by unfold outPts; exact pt_storable _ _ _ _

/-! ## The schedule -/

/-- The step whose copies use slot `b` for the `r`-th time. -/
def stp (b : Fin 2) (r : ℕ) : Fin 16 := ⟨(2 * r + b.val) % 16, Nat.mod_lt _ (by decide)⟩
theorem stp_sl (s : Fin 16) : stp (sl s) (s.val / 2) = s := by revert s; decide

/-- What arrives with a fetch: the slot holding the step's rows, and the rows themselves back. -/
def inPay (c : Dev nD) (s : Fin 16) : sProp 𝕄 := iprop(inPts c (sl s) (inC m c s) ∗ xPts m c s)
/-- With a copy out: the rows of the result, written, and the slot back. -/
def outPay (c : Dev nD) (s : Fin 16) : sProp 𝕄 := iprop(outPts c c s (outC m c) ∗ ∃ f, locPts c (sl s) f)
/-- At the sender of a transfer: the slot back. -/
def sendPay (c : Dev nD) (s : Fin 16) : sProp 𝕄 := iprop(∃ f, remPts (F := F) c (sl s) f)
/-- At the receiver: its rows of the result, written. -/
def recvPay (c : Dev nD) (s : Fin 16) : sProp 𝕄 := outPts c (peer c) s (outC m c)
/-- With the peer's signal: the rows of the peer's result that this device is to write. -/
def barPay (c : Dev nD) : sProp 𝕄 := bigSep Finset.univ fun s : Fin 16 => iprop(∃ f, outPts (F := F) (peer c) c s f)

instance inPay_storable (c : Dev nD) (s : Fin 16) : BI.Storable (upEmb : UEmb _ 𝕄) (inPay m c s) := by unfold inPay; infer_instance
instance outPay_storable (c : Dev nD) (s : Fin 16) : BI.Storable (upEmb : UEmb _ 𝕄) (outPay m c s) := by unfold outPay; infer_instance
instance sendPay_storable (c : Dev nD) (s : Fin 16) : BI.Storable (upEmb : UEmb _ 𝕄) (sendPay (F := F) c s) := by unfold sendPay; infer_instance
instance recvPay_storable (c : Dev nD) (s : Fin 16) : BI.Storable (upEmb : UEmb _ 𝕄) (recvPay m c s) := by unfold recvPay; infer_instance
instance barPay_storable (c : Dev nD) : BI.Storable (upEmb : UEmb _ 𝕄) (barPay (F := F) c) := by unfold barPay; infer_instance

/-- How many rounds a semaphore has. -/
def roundsOf : SemLoc sig → ℕ
  | .reg b => if b = barS then 1 else 0
  | .dma q => if q.val < 4 then 8 else 1
/-- The units of a round. -/
def unitsOf : SemLoc sig → ℕ
  | .reg _ => 1
  | .dma q => if q.val < 2 then Nin else Nout
/-- What the units of round `r` of copy semaphore `q` hand device `c`. -/
def payDma (c : Dev nD) (r : ℕ) (q : DmaSem sig) : sProp 𝕄 :=
  if h : q.val < 2 then inPay m c (stp ⟨q.val, h⟩ r)
  else if h : q.val < 4 then outPay m c (stp ⟨q.val - 2, by omega⟩ r)
  else if h : q.val < 20 then sendPay c ⟨q.val - 4, by omega⟩
  else recvPay m c ⟨(q.val - 20) % 16, Nat.mod_lt _ (by decide)⟩
/-- What a round's units hand device `c`. -/
def payOf (c : Dev nD) (r : ℕ) : SemLoc sig → sProp 𝕄
  | .reg _ => barPay c
  | .dma q => payDma m c r q

def Rd : Rounds.Schedule (GSem nD τ sig) Unit 𝕄 where
  duties g r := if g.1.2 = .tc ∧ r < roundsOf g.2 then {()} else ∅
  unitless _ := False
  amount g _ _ := unitsOf g.2
  payload g r _ := payOf m g.1.1 r g.2
  amount_pos g _ _ _ := by
    rcases g with ⟨_, _ | q⟩
    · exact Nat.one_pos
    · show 0 < (if q.val < 2 then Nin else Nout)
      split
      · exact Nin_pos
      · exact Nout_pos

instance Rd_storable (g : GSem nD τ sig) (r : ℕ) (d : Unit) : BI.Storable (upEmb : UEmb _ 𝕄) ((Rd m).payload g r d) := by
  rcases g with ⟨t, _ | q⟩
  · exact barPay_storable _
  · show BI.Storable upEmb (payDma m t.1 r q)
    unfold payDma
    (repeat' split) <;> infer_instance

section Sched
variable (c : Dev nD)

theorem duties_of (sm : SemLoc sig) (r : ℕ) (h : r < roundsOf sm) : (Rd m).duties ((c : Thread nD τ), sm) r = {()} := if_pos ⟨rfl, h⟩
theorem duties_mem (sm : SemLoc sig) (r : ℕ) (h : r < roundsOf sm) : () ∈ (Rd m).duties ((c : Thread nD τ), sm) r := by
  rw [duties_of m c sm r h]; exact Finset.mem_singleton_self _
theorem duties_later (sm : SemLoc sig) (r : ℕ) (h : roundsOf sm ≤ r) : (Rd m).duties ((c : Thread nD τ), sm) r = ∅ :=
  if_neg fun h' => absurd h'.2 (Nat.not_lt.mpr h)
theorem amount_of (sm : SemLoc sig) (r : ℕ) {N : ℕ} (h : unitsOf sm = N) : (Rd m).amount ((c : Thread nD τ), sm) r () = N := h
theorem expect_of (sm : SemLoc sig) (r : ℕ) (h : r < roundsOf sm) : (Rd m).expect ((c : Thread nD τ), sm) r = unitsOf sm := by
  unfold Schedule.expect Schedule.amountOf; rw [duties_of m c sm r h, Finset.sum_singleton]; rfl
theorem rest_of (sm : SemLoc sig) (r : ℕ) (h : r < roundsOf sm) :
    bigSep ((Rd m).duties ((c : Thread nD τ), sm) r \ ∅) (fun d => (Rd m).payload ((c : Thread nD τ), sm) r d) = payOf m c r sm := by
  rw [Finset.sdiff_empty, duties_of m c sm r h, bigSep_singleton]; rfl

theorem rounds_in (b : Fin 2) : roundsOf (.dma (inS b)) = 8 := if_pos (by rw [inS_val]; have := b.isLt; omega)
theorem rounds_out (b : Fin 2) : roundsOf (.dma (outS b)) = 8 := if_pos (by rw [outS_val]; have := b.isLt; omega)
theorem rounds_send (s : Fin 16) : roundsOf (.dma (sendS s)) = 1 := if_neg (by rw [sendS_val]; omega)
theorem rounds_recv (s : Fin 16) : roundsOf (.dma (recvS s)) = 1 := if_neg (by rw [recvS_val]; omega)
theorem rounds_bar : roundsOf (.reg barS) = 1 := by decide

theorem units_in (b : Fin 2) : unitsOf (.dma (inS b)) = Nin := if_pos (by rw [inS_val]; exact b.isLt)
theorem units_out (b : Fin 2) : unitsOf (.dma (outS b)) = Nout := if_neg (by rw [outS_val]; omega)
theorem units_send (s : Fin 16) : unitsOf (.dma (sendS s)) = Nout := if_neg (by rw [sendS_val]; omega)
theorem units_recv (s : Fin 16) : unitsOf (.dma (recvS s)) = Nout := if_neg (by rw [recvS_val]; omega)

theorem pay_in (s : Fin 16) : payOf m c (s.val / 2) (.dma (inS (sl s))) = inPay m c s := by
  have h : (inS (sl s)).val < 2 := by rw [inS_val]; exact (sl s).isLt
  have e : (⟨(inS (sl s)).val, h⟩ : Fin 2) = sl s := Fin.ext (inS_val _)
  show payDma m c _ _ = _; unfold payDma; rw [dif_pos h, e, stp_sl]
theorem pay_out (s : Fin 16) : payOf m c (s.val / 2) (.dma (outS (sl s))) = outPay m c s := by
  have h0 := outS_val (sl s); have hb := (sl s).isLt
  have h : ¬ (outS (sl s)).val < 2 := by omega
  have h' : (outS (sl s)).val < 4 := by omega
  have e : (⟨(outS (sl s)).val - 2, by omega⟩ : Fin 2) = sl s := Fin.ext (by show (outS (sl s)).val - 2 = _; omega)
  show payDma m c _ _ = _; unfold payDma; rw [dif_neg h, dif_pos h', e, stp_sl]
theorem pay_send (s : Fin 16) : payOf m c 0 (.dma (sendS s)) = sendPay c s := by
  have h0 := sendS_val s; have hb := s.isLt
  have h : ¬ (sendS s).val < 2 := by omega
  have h' : ¬ (sendS s).val < 4 := by omega
  have h'' : (sendS s).val < 20 := by omega
  have e : (⟨(sendS s).val - 4, by omega⟩ : Fin 16) = s := Fin.ext (by show (sendS s).val - 4 = _; omega)
  show payDma m c _ _ = _; unfold payDma; rw [dif_neg h, dif_neg h', dif_pos h'', e]
theorem pay_recv (s : Fin 16) : payOf m c 0 (.dma (recvS s)) = recvPay m c s := by
  have h0 := recvS_val s; have hb := s.isLt
  have h : ¬ (recvS s).val < 2 := by omega
  have h' : ¬ (recvS s).val < 4 := by omega
  have h'' : ¬ (recvS s).val < 20 := by omega
  have e : (⟨((recvS s).val - 20) % 16, Nat.mod_lt _ (by decide)⟩ : Fin 16) = s := Fin.ext (by show ((recvS s).val - 20) % 16 = _; omega)
  show payDma m c _ _ = _; unfold payDma; rw [dif_neg h, dif_neg h', dif_neg h'', e]
theorem pay_bar : payOf m c 0 (.reg barS) = barPay c := rfl

end Sched

/-! ## Index sets: the steps from `n` on, and before `n` -/

def ge (n : ℕ) : Finset (Fin 16) := Finset.univ.filter fun s => n ≤ s.val
def lt (n : ℕ) : Finset (Fin 16) := Finset.univ.filter fun s => s.val < n

theorem ge_zero : ge 0 = Finset.univ := by decide
theorem lt_zero : lt 0 = ∅ := by decide
theorem lt_all : lt 16 = Finset.univ := by decide
theorem ge_all : ge 16 = ∅ := by decide
theorem ge_more : ge 17 = ∅ := by decide
theorem ge_insert (n : ℕ) (h : n < 16) : ge n = insert ⟨n, h⟩ (ge (n + 1)) := by
  ext s; simp only [ge, Finset.mem_filter, Finset.mem_univ, true_and, Finset.mem_insert, Fin.ext_iff]; omega
theorem ge_notMem (n : ℕ) (h : n < 16) : (⟨n, h⟩ : Fin 16) ∉ ge (n + 1) := by
  simp only [ge, Finset.mem_filter, Finset.mem_univ, true_and]; omega
theorem lt_insert (n : ℕ) (h : n < 16) : lt (n + 1) = insert ⟨n, h⟩ (lt n) := by
  ext s; simp only [lt, Finset.mem_filter, Finset.mem_univ, true_and, Finset.mem_insert, Fin.ext_iff]; omega
theorem lt_notMem (n : ℕ) (h : n < 16) : (⟨n, h⟩ : Fin 16) ∉ lt n := by
  simp only [lt, Finset.mem_filter, Finset.mem_univ, true_and]; omega

/-- A family over the steps from `n` on is its member at `n` and the rest. -/
theorem bigSep_ge (n : ℕ) (h : n < 16) (Φ : Fin 16 → sProp 𝕄) : bigSep (ge n) Φ = iprop(Φ ⟨n, h⟩ ∗ bigSep (ge (n + 1)) Φ) := by
  rw [ge_insert n h, BI.bigSep_insert (ge_notMem n h)]; rfl
/-- A family over the steps up to `n` is its member at `n` and those before. -/
theorem bigSep_lt (n : ℕ) (h : n < 16) (Φ : Fin 16 → sProp 𝕄) : bigSep (lt (n + 1)) Φ = iprop(Φ ⟨n, h⟩ ∗ bigSep (lt n) Φ) := by
  rw [lt_insert n h, BI.bigSep_insert (lt_notMem n h)]; rfl

/-! ## What a device owes; the levels -/

/-- What is owed to the peer's receipts of the steps from `n` on. -/
def Orem (c : Dev nD) (n : ℕ) : CellTallies nD τ sig Unit := ∑ s ∈ ge n, tallyAt (recvCell (peer c) s) () Nout
/-- At launch: all of them, and the signal to the peer's barrier. -/
def O₀ (c : Dev nD) : CellTallies nD τ sig Unit := Orem c 0 + tallyAt (barCell (peer c)) () 1

theorem Orem_step (c : Dev nD) (n : ℕ) (h : n < 16) : Orem c n = Orem c (n + 1) + tallyAt (recvCell (peer c) ⟨n, h⟩) () Nout := by
  unfold Orem; rw [ge_insert n h, Finset.sum_insert (ge_notMem n h), add_comm]
theorem Orem_all (c : Dev nD) : Orem c 16 = 0 := by unfold Orem; rw [ge_all]; exact Finset.sum_empty

def L (g : GSem nD τ sig) : Finset Unit := if g.1.2 = .tc then {()} else ∅
/-- The barrier below the receipts, everything else below both. -/
def lv (g : GSem nD τ sig) (_ : Unit) : ℕ := match g.2 with
  | .reg _ => 1
  | .dma q => if q.val < 20 then 0 else 2

theorem L_of_ne (g : GSem nD τ sig) (h : g.1.2 ≠ .tc) : L g = ∅ := if_neg h
theorem L_tc (c : Dev nD) (sm : SemLoc sig) : L ((c : Thread nD τ), sm) = {()} := if_pos rfl
theorem lv_recv (c : Dev nD) (s : Fin 16) : lv (recvCell c s) () = 2 := if_neg (by rw [recvS_val]; omega)

theorem tally_pos {g g' : GSem nD τ sig} {u : Unit} {k : ℕ} (h : 0 < tallyAt g' () k g u) : g = g' := by
  rw [tallyAt_apply] at h
  by_contra hn
  rw [if_neg fun h' => hn h'.1] at h
  exact Nat.lt_irrefl 0 h

theorem Orem_pos {c : Dev nD} {n : ℕ} {g : GSem nD τ sig} {u : Unit} (h : 0 < Orem c n g u) : ∃ s, g = recvCell (peer c) s := by
  unfold Orem at h
  rw [Finset.sum_apply, Finsupp.finset_sum_apply] at h
  obtain ⟨s, -, hs⟩ := Finset.exists_ne_zero_of_sum_ne_zero h.ne'
  exact ⟨s, tally_pos (Nat.pos_of_ne_zero hs)⟩

theorem O₀_pos {c : Dev nD} {g : GSem nD τ sig} {u : Unit} (h : 0 < O₀ c g u) : (∃ s, g = recvCell (peer c) s) ∨ g = barCell (peer c) := by
  unfold O₀ at h
  rw [Pi.add_apply, Finsupp.add_apply] at h
  rcases Nat.eq_zero_or_pos (Orem c 0 g u) with h0 | h0
  · rw [h0, Nat.zero_add] at h; exact .inr (tally_pos h)
  · exact .inl (Orem_pos h0)

/-- A device that owes receipts may wait on any semaphore of lower level: all but the receipts. -/
theorem mayWait_rem (c : Dev nD) (sm : SemLoc sig) (n : ℕ) (hsm : lv ((c : Thread nD τ), sm) () ≤ 1) :
    (levAts L lv : sProp 𝕄) ⊢ MayWait (c : Thread nD τ) sm () (Orem c n) :=
  MayOwe.of_cut (L := L) (lev := lv) 1 (fun p hp => by rw [Finset.mem_singleton.mp hp, L_tc]; exact Finset.mem_singleton_self _)
    (fun g u hg => by obtain ⟨s, rfl⟩ := Orem_pos hg; rw [L_tc]; exact Finset.mem_singleton_self _)
    (fun p hp => by rw [Finset.mem_singleton.mp hp]; exact hsm)
    (fun g u hg => by obtain ⟨s, rfl⟩ := Orem_pos hg; rw [show lv (recvCell (peer c) s) u = 2 from lv_recv _ _]; decide)

/-- A device that owes everything may wait on a semaphore of level zero. -/
theorem mayWait_all (c : Dev nD) (sm : SemLoc sig) (hsm : lv ((c : Thread nD τ), sm) () ≤ 0) :
    (levAts L lv : sProp 𝕄) ⊢ MayWait (c : Thread nD τ) sm () (O₀ c) :=
  MayOwe.of_cut (L := L) (lev := lv) 0 (fun p hp => by rw [Finset.mem_singleton.mp hp, L_tc]; exact Finset.mem_singleton_self _)
    (fun g u hg => by rcases O₀_pos hg with ⟨s, rfl⟩ | rfl <;> (rw [L_tc]; exact Finset.mem_singleton_self _))
    (fun p hp => by rw [Finset.mem_singleton.mp hp]; exact hsm)
    (fun g u hg => by
      rcases O₀_pos hg with ⟨s, rfl⟩ | rfl
      · rw [show lv (recvCell (peer c) s) u = 2 from lv_recv _ _]; decide
      · exact Nat.one_pos)

theorem lv_in (c : Dev nD) (b : Fin 2) : lv (inCell c b) () ≤ 1 := by
  show (if (inS b).val < 20 then 0 else 2) ≤ 1; rw [if_pos (by rw [inS_val]; omega)]; decide
theorem lv_out (c : Dev nD) (b : Fin 2) : lv (outCell c b) () ≤ 1 := by
  show (if (outS b).val < 20 then 0 else 2) ≤ 1; rw [if_pos (by rw [outS_val]; omega)]; decide
theorem lv_send (c : Dev nD) (s : Fin 16) : lv (sendCell c s) () ≤ 1 := by
  show (if (sendS s).val < 20 then 0 else 2) ≤ 1; rw [if_pos (by rw [sendS_val]; omega)]; decide
theorem lv_bar (c : Dev nD) : lv (barCell c) () ≤ 1 := Nat.le_refl _

end Cert.AllToAll

end
-- ==== Proof.Rules.lean ====
/-
  One rule per operation of a step, at a symbolic device and a symbolic step: what the operation takes of what the device
  holds, and what it gives.
-/
module

public import proofs.«01_k».proof.Proof.Schedule

@[expose] public section

noncomputable section

namespace Cert.AllToAll

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ UU ℕ

abbrev 𝒱₀ : Variants := Variants.none

variable (m : (ℓ : Loc nD τ sig) → Buf (Elt F) ℓ)

/-! ## The cells, indexed; what every device knows of all of them -/

/-- A device's own semaphores: of its fetches, its copies out, its transfers and its receipts. -/
abbrev KO : Type := (Fin 2 ⊕ Fin 2) ⊕ (Fin 16 ⊕ Fin 16)
/-- Those and the barrier. -/
abbrev KC : Type := KO ⊕ Unit

def osem : KO → SemLoc sig
  | .inl (.inl b) => .dma (inS b)
  | .inl (.inr b) => .dma (outS b)
  | .inr (.inl s) => .dma (sendS s)
  | .inr (.inr s) => .dma (recvS s)
def csem : KC → SemLoc sig
  | .inl k => osem k
  | .inr _ => .reg barS
def kcell (ck : Dev nD × KC) : GSem nD τ sig := ((ck.1 : Thread nD τ), csem ck.2)

abbrev kIn (c : Dev nD) (b : Fin 2) : Dev nD × KC := (c, .inl (.inl (.inl b)))
abbrev kOut (c : Dev nD) (b : Fin 2) : Dev nD × KC := (c, .inl (.inl (.inr b)))
abbrev kSend (c : Dev nD) (s : Fin 16) : Dev nD × KC := (c, .inl (.inr (.inl s)))
abbrev kRecv (c : Dev nD) (s : Fin 16) : Dev nD × KC := (c, .inl (.inr (.inr s)))
abbrev kBar (c : Dev nD) : Dev nD × KC := (c, .inr ())

/-- Every cell's invariant, that every cell's round 0 is reached, and the levels. -/
def records (K : Dev nD × KC → ℕ) : sProp 𝕄 :=
  iprop((bigSep Finset.univ fun ck : Dev nD × KC => cellInv ER (Rd m) (K ck) (kcell ck))
    ∗ (bigSep Finset.univ fun ck : Dev nD × KC => reached ER (kcell ck) 0) ∗ levAts L lv)

instance records_persistent (K : Dev nD × KC → ℕ) : BI.Persistent (records m K) := by unfold records; infer_instance

variable (K : Dev nD × KC → ℕ)

theorem inv_at (ck : Dev nD × KC) : records m K ⊢ cellInv ER (Rd m) (K ck) (kcell ck) := by
  unfold records
  iintro ⟨#HI, -, -⟩
  iapply (show (bigSep Finset.univ fun ck : Dev nD × KC => (cellInv ER (Rd m) (K ck) (kcell ck) : sProp 𝕄)) ⊢ cellInv ER (Rd m) (K ck) (kcell ck)
    from bigSep_elim (Finset.mem_univ ck)); iexact HI
theorem reached_at (ck : Dev nD × KC) : records m K ⊢ reached ER (kcell ck) 0 := by
  unfold records
  iintro ⟨-, #HR, -⟩
  iapply (show (bigSep Finset.univ fun ck : Dev nD × KC => (reached ER (kcell ck) 0 : sProp 𝕄)) ⊢ reached ER (kcell ck) 0
    from bigSep_elim (Finset.mem_univ ck)); iexact HR
theorem levs_at : records m K ⊢ levAts L lv := by
  unfold records; iintro ⟨-, -, #HL⟩; iexact HL

/-- What device `c` owes, whatever it has waited for so far. -/
def owing (c : Dev nD) (O : CellTallies nD τ sig Unit) : sProp 𝕄 := iprop(∃ W, owes (c : Thread nD τ) O W)

abbrev run (c : Dev nD) (e : P F) (Q : PUnit.{1} → sProp 𝕄) : sProp 𝕄 :=
  wp frame (wpE (defs₀ (F := F)) 𝒱₀ (c : Thread nD τ) none) Set.univ e Q

/-- What holds when a program has ended. -/
abbrev Post (F : FTy → Type) : Type := PUnit.{1} → sProp (MT nD τ sig Unit (Elt F) ℕ UU ℕ)

variable (c : Dev nD) (s : Fin 16) (k : P F) (Q : Post F)

/-! ## The copies -/

/-- A fetch is started: the step's rows and a free slot go, the credit of its completion comes. -/
theorem start_in :
    iprop(records m K ∗ xPts m c s ∗ (∃ f, inPts c (sl s) f) ∗ dutyTok ER (inCell c (sl s)) (s.val / 2) () ∗ reached ER (inCell c (sl s)) (s.val / 2))
      ⊢ iprop((cred (tallyAt (inCell c (sl s)) () Nin) -∗ run c k Q) -∗ run c (startInK s k) Q) := by
  iintro ⟨#HK, Hx, ⟨%f, Hs⟩, Ht, Hr⟩ Hk
  unfold startInK xPts inPts
  iapply (Rounds.wp_copy_pointsTo 𝒱₀ ER (Rd m) (c : Thread nD τ) none (κ := K (kIn c (sl s))) (src := xChunk s) (dst := inSlot (sl s)) (fs := X m c) (fd := f)
    (sem := .dma (inS (sl s))) (r := s.val / 2) (d := ()) (duties_mem m c _ _ (by rw [rounds_in]; omega)) () Nin (Nin_eq _) (amount_of m c _ _ (units_in _)) (by
      show _ ⊢ payOf m c (s.val / 2) (.dma (inS (sl s)))
      rw [pay_in]; unfold inPay inPts xPts
      exact sep_mono_left (Entails.of_eq (pointsTo_congr fun i hi => fetch_eq m c s (sl s) f i hi)))) $$ [Hx Hs Ht Hr]
  · isplitr; · iapply (inv_at m K (kIn c (sl s))); iexact HK
    isplitl [Hx]; · iexact Hx
    isplitl [Hs]; · iexact Hs
    isplitl [Ht] <;> iassumption
  iintro Hc
  iapply Hk; iexact Hc

/-- A wait on a semaphore of the device's own. -/
theorem wait_own (sm : SemLoc sig) (κ : Dev nD × KC) (hκ : kcell κ = ((c : Thread nD τ), sm)) {w : TpuEff nD τ sig (Elt F) Λ₀ .tc PUnit} {N : ℕ}
    (hw : ∀ R : PUnit → sProp 𝕄, wpE (defs₀ (F := F)) 𝒱₀ (c : Thread nD τ) none Set.univ w R = waitSpec (c : Thread nD τ) Set.univ sm N R) (r : ℕ) (hr : r < roundsOf sm) (hN : unitsOf sm = N)
    (O : CellTallies nD τ sig Unit) (hO : (levAts L lv : sProp 𝕄) ⊢ MayWait (c : Thread nD τ) sm () O) :
    iprop(records m K ∗ cred (tallyAt ((c : Thread nD τ), sm) () N) ∗ owing c O ∗ atPos ER ((c : Thread nD τ), sm) r ∅ 0)
      ⊢ iprop(((owing c O ∗ atPos ER ((c : Thread nD τ), sm) (r + 1) ∅ 0 ∗ reached ER ((c : Thread nD τ), sm) (r + 1) ∗ payOf m c r sm) -∗ run c k Q)
          -∗ run c (.op w fun _ => k) Q) := by
  unfold owing
  iintro ⟨#HK, Hc, ⟨%W, HO⟩, Ha⟩ Hk
  iapply (Rounds.wp_wait_rest_token 𝒱₀ ER (Rd m) (c : Thread nD τ) none (κ := K κ) hw (Set.mem_univ _) () (O := O) (W := W) (R := r) (m := 0) (T := ∅)
    (by rw [Nat.zero_add, expect_of m c sm r hr, hN])) $$ [Hc HO Ha]
  · isplitr; · rw [← hκ]; iapply (inv_at m K κ); iexact HK
    isplitl [Hc]; · iexact Hc
    isplitl [HO]; · iexact HO
    isplitr; · iapply hO; iapply (levs_at m K); iexact HK
    iexact Ha
  iintro ⟨HO, Ha, Hr, Hp⟩
  ihave Hp' := (Entails.of_eq (rest_of m c sm r hr)) $$ Hp
  iapply Hk
  isplitl [HO]; · iexists _; iexact HO
  isplitl [Ha]; · iexact Ha
  isplitl [Hr]; · iexact Hr
  iexact Hp'

/-- The wait for a fetch: the slot holds the step's rows. -/
theorem wait_in (O : CellTallies nD τ sig Unit) (hO : (levAts L lv : sProp 𝕄) ⊢ MayWait (c : Thread nD τ) (.dma (inS (sl s))) () O) :
    iprop(records m K ∗ cred (tallyAt (inCell c (sl s)) () Nin) ∗ owing c O ∗ atPos ER (inCell c (sl s)) (s.val / 2) ∅ 0)
      ⊢ iprop(((owing c O ∗ atPos ER (inCell c (sl s)) (s.val / 2 + 1) ∅ 0 ∗ reached ER (inCell c (sl s)) (s.val / 2 + 1) ∗ inPay m c s) -∗ run c k Q)
          -∗ run c (waitInK s k) Q) := by
  rw [← pay_in]
  exact wait_own m K c k Q (.dma (inS (sl s))) (kIn c (sl s)) rfl
    (fun R => (wpE_waitDma2_eq 𝒱₀ (c : Thread nD τ) none Set.univ (src := xChunk s) (dst := inSlot (sl s)) (hsrc := xWE s) (hdst := inWE _) R).trans (by rw [Nin_eq _])) (s.val / 2)
    (by rw [rounds_in]; omega) (units_in _) O hO

/-- The wait for a copy out: the result's rows are written, the slot is free. -/
theorem wait_out (O : CellTallies nD τ sig Unit) (hO : (levAts L lv : sProp 𝕄) ⊢ MayWait (c : Thread nD τ) (.dma (outS (sl s))) () O) :
    iprop(records m K ∗ cred (tallyAt (outCell c (sl s)) () Nout) ∗ owing c O ∗ atPos ER (outCell c (sl s)) (s.val / 2) ∅ 0)
      ⊢ iprop(((owing c O ∗ atPos ER (outCell c (sl s)) (s.val / 2 + 1) ∅ 0 ∗ reached ER (outCell c (sl s)) (s.val / 2 + 1) ∗ outPay m c s) -∗ run c k Q)
          -∗ run c (waitOutK c s k) Q) := by
  rw [← pay_out]
  exact wait_own m K c k Q (.dma (outS (sl s))) (kOut c (sl s)) rfl
    (fun R => (wpE_waitDma2_eq 𝒱₀ (c : Thread nD τ) none Set.univ (src := locSlot (sl s)) (dst := oOut c s) (hsrc := locWE _) (hdst := oOutWE c s) R).trans (by rw [Nouts_eq _ _])) (s.val / 2)
    (by rw [rounds_out]; omega) (units_out _) O hO

/-- The wait for a transfer to have been read: the slot is free. -/
theorem wait_send (O : CellTallies nD τ sig Unit) (hO : (levAts L lv : sProp 𝕄) ⊢ MayWait (c : Thread nD τ) (.dma (sendS s)) () O) :
    iprop(records m K ∗ cred (tallyAt (sendCell c s) () Nout) ∗ owing c O ∗ atPos ER (sendCell c s) 0 ∅ 0)
      ⊢ iprop(((owing c O ∗ atPos ER (sendCell c s) 1 ∅ 0 ∗ reached ER (sendCell c s) 1 ∗ sendPay c s) -∗ run c k Q)
          -∗ run c (waitSendK c s k) Q) := by
  rw [← pay_send m]
  exact wait_own m K c k Q (.dma (sendS s)) (kSend c s) rfl
    (fun R => (wpE_waitDma2_eq 𝒱₀ (c : Thread nD τ) none Set.univ (src := oOut c s) (dst := remSlot (sl s)) (hsrc := oOutWE c s) (hdst := remWE _) R).trans (by rw [Nrem_eq _])) 0
    (by rw [rounds_send]; exact Nat.one_pos) (units_send _) O hO

/-- The wait for the peer's transfer: its rows of the result are written. -/
theorem wait_recv (O : CellTallies nD τ sig Unit) (hO : (levAts L lv : sProp 𝕄) ⊢ MayWait (c : Thread nD τ) (.dma (recvS s)) () O) :
    iprop(records m K ∗ cred (tallyAt (recvCell c s) () Nout) ∗ owing c O ∗ atPos ER (recvCell c s) 0 ∅ 0)
      ⊢ iprop(((owing c O ∗ atPos ER (recvCell c s) 1 ∅ 0 ∗ reached ER (recvCell c s) 1 ∗ recvPay m c s) -∗ run c k Q)
          -∗ run c (waitRecvK c s k) Q) := by
  rw [← pay_recv m]
  exact wait_own m K c k Q (.dma (recvS s)) (kRecv c s) rfl
    (fun R => (wpE_waitDma2_eq 𝒱₀ (c : Thread nD τ) none Set.univ (src := remSlot (sl s)) (dst := oIn c s) (hsrc := remWE _) (hdst := oInWE c s) R).trans (by rw [Nins_eq _ _])) 0
    (by rw [rounds_recv]; exact Nat.one_pos) (units_recv _) O hO

/-- The wait for the peer's signal: the rows of the peer's result come with it. -/
theorem wait_bar (O : CellTallies nD τ sig Unit) (hO : (levAts L lv : sProp 𝕄) ⊢ MayWait (c : Thread nD τ) (.reg barS) () O) :
    iprop(records m K ∗ cred (tallyAt (barCell c) () 1) ∗ owing c O ∗ atPos ER (barCell c) 0 ∅ 0)
      ⊢ iprop(((owing c O ∗ atPos ER (barCell c) 1 ∅ 0 ∗ reached ER (barCell c) 1 ∗ barPay c) -∗ run c k Q)
          -∗ run c (.op (.semWait barS (1#32).toInt) fun _ => k) Q) :=
  wait_own m K c k Q (.reg barS) (kBar c) rfl (wpE_semWait_eq 𝒱₀ (c : Thread nD τ) none Set.univ) 0
    (by rw [rounds_bar]; exact Nat.one_pos) rfl O hO

/-- The signal to the peer: the rows of this device's result that the peer is to write go with it. -/
theorem signal_peer (n : Dev nD) (hn : n = peer c) (O : CellTallies nD τ sig Unit) :
    iprop(records m K ∗ owing c (O + tallyAt (barCell (peer c)) () 1) ∗ dutyTok ER (barCell (peer c)) 0 () ∗ barPay (peer c))
      ⊢ iprop((owing c O -∗ run c k Q) -∗ run c (.op (.semSignal (n, .tc) barS (1#32).toInt) fun _ => k) Q) := by
  subst hn
  unfold owing
  iintro ⟨#HK, ⟨%W, HO⟩, Ht, Hp⟩ Hk
  iapply (Rounds.wp_signal 𝒱₀ ER (Rd m) (c : Thread nD τ) none (dst := (peer c : Thread nD τ)) (κ := K (kBar (peer c))) (r := 0)
      (d := ()) (duties_mem m (peer c) _ _ (by rw [rounds_bar]; exact Nat.one_pos)) (amount_of m (peer c) _ _ rfl) () O rfl)
    $$ [HO Ht Hp]
  · isplitr; · iapply (inv_at m K (kBar (peer c))); iexact HK
    isplitl [HO]; · iexact HO
    isplitl [Ht]; · iexact Ht
    isplitl [Hp]; · rw [show (Rd m).payload ((peer c : Thread nD τ), .reg barS) 0 () = barPay (peer c) from rfl]; iexact Hp
    iapply (reached_at m K (kBar (peer c))); iexact HK
  iintro HO
  iapply Hk
  iexists W; iexact HO

/-- A copy out is started. -/
theorem start_out :
    iprop(records m K ∗ locPts c (sl s) (halfC m c s (xp c)) ∗ (∃ f, outPts c c s f) ∗ dutyTok ER (outCell c (sl s)) (s.val / 2) () ∗ reached ER (outCell c (sl s)) (s.val / 2))
      ⊢ iprop((cred (tallyAt (outCell c (sl s)) () Nout) -∗ run c k Q) -∗ run c (startOutK c s k) Q) := by
  iintro ⟨#HK, Hx, ⟨%f, Hs⟩, Ht, Hr⟩ Hk
  unfold startOutK locPts outPts
  iapply (Rounds.wp_copy_pointsTo 𝒱₀ ER (Rd m) (c : Thread nD τ) none (κ := K (kOut c (sl s))) (src := locSlot (sl s)) (dst := oOut c s)
    (fs := halfC m c s (xp c)) (fd := f)
    (sem := .dma (outS (sl s))) (r := s.val / 2) (d := ()) (duties_mem m c _ _ (by rw [rounds_out]; omega)) () Nout (Nouts_eq _ _) (amount_of m c _ _ (units_out _)) (by
      show _ ⊢ payOf m c (s.val / 2) (.dma (outS (sl s)))
      rw [pay_out]; unfold outPay outPts locPts
      iintro ⟨Ho, Hl⟩
      isplitl [Ho]
      · iapply (Entails.of_eq (pointsTo_congr fun i hi => copyOut_eq m c s (sl s) f i hi)); iexact Ho
      · iexists _; iexact Hl)) $$ [Hx Hs Ht Hr]
  · isplitr; · iapply (inv_at m K (kOut c (sl s))); iexact HK
    isplitl [Hx]; · iexact Hx
    isplitl [Hs]; · iexact Hs
    isplitl [Ht] <;> iassumption
  iintro Hc
  iapply Hk; iexact Hc

/-- A transfer to the peer is started: what is owed to that step's receipt is paid. -/
theorem start_send (n : Dev nD) (hn : n = peer c) (O : CellTallies nD τ sig Unit) :
    iprop(records m K ∗ remPts c (sl s) (halfC m c s (xq c)) ∗ (∃ f, outPts (peer c) c s f) ∗ owing c (O + tallyAt (recvCell (peer c) s) () Nout)
        ∗ dutyTok ER (sendCell c s) 0 () ∗ dutyTok ER (recvCell (peer c) s) 0 ())
      ⊢ iprop(((cred (tallyAt (sendCell c s) () Nout) ∗ owing c O) -∗ run c k Q)
          -∗ run c (.op (.enqueueDma (remSlot (sl s)) (.remote (Dev.tc n) (oOut c s) (.dma (sendS s))) (.dma (recvS s)) (remWE _) (oOutWE c s)
            ⟨⟨rfl, Or.inl rfl⟩, trivial⟩) fun _ => k) Q) := by
  subst hn
  unfold owing remPts outPts
  iintro ⟨#HK, Hx, ⟨%f, Hs⟩, ⟨%W, HO⟩, Ht, Ht'⟩ Hk
  iapply (Rounds.wp_send_pointsTo 𝒱₀ ER (Rd m) (c : Thread nD τ) none (κ₁ := K (kSend c s)) (κ₂ := K (kRecv (peer c) s))
    (src := remSlot (sl s)) (dst := oOut c s) (c' := (peer c : Thread nD τ)) (fs := halfC m c s (xq c)) (fd := f)
    (sS := .dma (sendS s)) (sem := .dma (recvS s)) (r₁ := 0) (r₂ := 0) (d₁ := ()) (d₂ := ())
    (duties_mem m c _ _ (by rw [rounds_send]; exact Nat.one_pos)) (duties_mem m (peer c) _ _ (by rw [rounds_recv]; exact Nat.one_pos))
    () () Nout (Nouts_eq _ _) (amount_of m c _ _ (units_send _)) (amount_of m (peer c) _ _ (units_recv _)) O rfl (W := W)
    (by
      show _ ⊢ payOf m c 0 (.dma (sendS s))
      rw [pay_send]; unfold sendPay remPts
      iintro H; iexists _; iexact H)
    (by
      show _ ⊢ payOf m (peer c) 0 (.dma (recvS s))
      rw [pay_recv]; unfold recvPay outPts; rw [peer_peer]
      exact Entails.of_eq (pointsTo_congr fun i hi => send_eq m c s (sl s) f i hi))) $$ [Hx Hs HO Ht Ht']
  · isplitr; · iapply (inv_at m K (kSend c s)); iexact HK
    isplitr; · iapply (inv_at m K (kRecv (peer c) s)); iexact HK
    isplitl [Hx]; · iexact Hx
    isplitl [Hs]; · iexact Hs
    isplitl [HO]; · iexact HO
    isplitl [Ht]; · iexact Ht
    isplitr; · iapply (reached_at m K (kSend c s)); iexact HK
    isplitl [Ht']; · iexact Ht'
    iapply (reached_at m K (kRecv (peer c) s)); iexact HK
  iintro ⟨Hc, HO⟩
  iapply Hk
  isplitl [Hc]; · iexact Hc
  iexists W; iexact HO

/-! ## The fill -/

theorem load_sub (b q : Fin 2) : inM.view.setOn (inHalf b q).toLoadRect.set ⊆ (inSlot b).view.set := by
  intro i hi
  obtain ⟨j, hj, rfl⟩ := Finset.mem_map.mp hi
  obtain ⟨x, rfl⟩ := LoadRect.exists_idx_of_mem (inHalf b q).toLoadRect hj
  have h : (inSlot b).view.emb (ix2 (x 1) ⟨1024 * q.val + (x 2).val, by have : (x 2).val < 1024 := (x 2).isLt; have := q.isLt; omega⟩)
      = inM.view.emb ((inHalf b q).emb x) := (inSlot_emb b _).trans (inHalf_emb b q x).symm
  exact Finset.mem_map.mpr ⟨_, Finset.mem_univ _, h⟩
theorem slot_set (b : Fin 2) : (locM.access (slotR b)).set = (locSlot b).view.set := (View.set_reshape _ _).symm

theorem inPts_eq (b : Fin 2) (f : S2x1024x2048.Idx → Elt F .f32) :
    inPts c b f = (inM.view.loc (c : Thread nD τ) ↦[(inSlot b).view.set]{fullShare} f : sProp 𝕄) := rfl
theorem locPts_eq (b : Fin 2) (f : S2x1024x1024.Idx → Elt F .bf16) :
    locPts c b f = ((locM.access (slotR b)).loc (c : Thread nD τ) ↦[(locM.access (slotR b)).set]{fullShare} f : sProp 𝕄) := by rw [slot_set]; rfl
theorem remPts_eq (b : Fin 2) (f : S2x1024x1024.Idx → Elt F .bf16) :
    remPts c b f = ((remM.access (slotR b)).loc (c : Thread nD τ) ↦[(remM.access (slotR b)).set]{fullShare} f : sProp 𝕄) :=
  (show remPts c b f = ((remM.access (slotR b)).loc (c : Thread nD τ) ↦[(remSlot b).view.set]{fullShare} f : sProp 𝕄) from rfl).trans
    (by rw [show (remM.access (slotR b)).set = (remSlot b).view.set from (View.set_reshape _ _).symm])

theorem fillLoc_pts (b q : Fin 2) (f : S2x1024x1024.Idx → Elt F .bf16) :
    ((locM.access (slotR b)).loc (c : Thread nD τ) ↦[(locM.access (slotR b)).set]{fullShare}
      (locM.access (slotR b)).write (Elt F) f (pay (inM.view.readAt (Elt F) (inHalf b q).toLoadRect (inC m c s))) Finset.univ : sProp 𝕄)
      = locPts c b (halfC m c s q) := by
  rw [locPts_eq]
  exact pointsTo_congr fun i hi => fillLoc_eq m c s b q f i (by rw [← slot_set b]; exact hi)
theorem fillRem_pts (b q : Fin 2) (f : S2x1024x1024.Idx → Elt F .bf16) :
    ((remM.access (slotR b)).loc (c : Thread nD τ) ↦[(remM.access (slotR b)).set]{fullShare}
      (remM.access (slotR b)).write (Elt F) f (pay (inM.view.readAt (Elt F) (inHalf b q).toLoadRect (inC m c s))) Finset.univ : sProp 𝕄)
      = remPts c b (halfC m c s q) := by
  rw [remPts_eq]
  exact pointsTo_congr fun i hi => fillRem_eq m c s b q f i
    (by rw [show (remSlot b).view.set = (remM.access (slotR b)).set from View.set_reshape _ _]; exact hi)

/-- The two half buffers' slots are filled from the rows fetched. -/
theorem fill (b p q : Fin 2) :
    iprop(inPts c b (inC m c s) ∗ (∃ f, locPts c b f) ∗ (∃ f, remPts c b f))
      ⊢ iprop(((inPts c b (inC m c s) ∗ locPts c b (halfC m c s p) ∗ remPts c b (halfC m c s q)) -∗ run c k Q) -∗ run c (fillK b p q k) Q) := by
  unfold fillK
  rw [inPts_eq]
  iintro ⟨Hi, ⟨%f, Hl⟩, ⟨%g, Hr⟩⟩ Hk
  ihave Hl := (Entails.of_eq (locPts_eq c b f)) $$ Hl
  ihave Hr := (Entails.of_eq (remPts_eq c b g)) $$ Hr
  iapply (wp_load 𝒱₀ (c : Thread nD τ) none Set.univ (m := inM) (load_sub b p)) $$ Hi; iintro Hi
  iapply (wp_load_rect 𝒱₀ (c : Thread nD τ) none Set.univ (m := locM) (r := slotR b) (subset_refl _)) $$ Hl; iintro Hl
  iapply (wp_store 𝒱₀ (c : Thread nD τ) none Set.univ (m := locM) (r := slotR b) (Mk := Finset.univ)
    (S := (locM.access (slotR b)).set) (locM.access (slotR b)).setOn_univ.subset) $$ Hl; iintro Hl
  iapply (wp_load 𝒱₀ (c : Thread nD τ) none Set.univ (m := inM) (load_sub b q)) $$ Hi; iintro Hi
  iapply (wp_load_rect 𝒱₀ (c : Thread nD τ) none Set.univ (m := remM) (r := slotR b) (subset_refl _)) $$ Hr; iintro Hr
  iapply (wp_store 𝒱₀ (c : Thread nD τ) none Set.univ (m := remM) (r := slotR b) (Mk := Finset.univ)
    (S := (remM.access (slotR b)).set) (remM.access (slotR b)).setOn_univ.subset) $$ Hr; iintro Hr
  iapply Hk
  isplitl [Hi]; · iexact Hi
  isplitl [Hl]
  · iapply (Entails.of_eq (fillLoc_pts m c s b p f)); iexact Hl
  · iapply (Entails.of_eq (fillRem_pts m c s b q g)); iexact Hr

end Cert.AllToAll

end
-- ==== Proof.Body.lean ====
/-
  The body on one device, symbolic throughout: what holds before each step, that a step keeps it, and what the whole body
  makes of what the device starts with.
-/
module

public import proofs.«01_k».proof.Proof.Rules

@[expose] public section

noncomputable section

namespace Cert.AllToAll

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × KC → ℕ) (c : Dev nD)

/-! ## What a device holds between steps -/

/-- The slot step `n` uses. -/
def par (n : ℕ) : Fin 2 := ⟨n % 2, Nat.mod_lt _ (by decide)⟩
theorem par_add (n : ℕ) : par (n + 2) = par n := Fin.ext (by show (n + 2) % 2 = n % 2; omega)
theorem half_add (n : ℕ) : (n + 2) / 2 = n / 2 + 1 := by omega

/-- A fetch still to start: its right, and its rows. -/
def inDuty (s : Fin 16) : sProp 𝕄 := iprop(dutyTok ER (inCell c (sl s)) (s.val / 2) () ∗ xPts m c s)
/-- Copies out still to start: their rights, and the rows of the device's own result. -/
def outDuty (s : Fin 16) : sProp 𝕄 :=
  iprop(dutyTok ER (outCell c (sl s)) (s.val / 2) () ∗ dutyTok ER (sendCell c s) 0 () ∗ dutyTok ER (recvCell (peer c) s) 0 ()
    ∗ atPos ER (sendCell c s) 0 ∅ 0 ∗ (∃ f, outPts (F := F) c c s f))
/-- The rows of the peer's result. -/
def peerRows (s : Fin 16) : sProp 𝕄 := iprop(∃ f, outPts (F := F) (peer c) c s f)
/-- The staging slot of step `n`, free. -/
def inFree (n : ℕ) : sProp 𝕄 :=
  iprop(atPos ER (inCell c (par n)) (n / 2) ∅ 0 ∗ reached ER (inCell c (par n)) (n / 2) ∗ (∃ f, inPts (F := F) c (par n) f))
/-- The staging slot of step `n`, being fetched into; free past the last step. -/
def fetched (n : ℕ) : sProp 𝕄 :=
  if n < 16 then iprop(atPos ER (inCell c (par n)) (n / 2) ∅ 0 ∗ cred (tallyAt (inCell c (par n)) () Nin)) else inFree c n
/-- The half buffers' slots, being copied out of since step `s`. -/
def busy (s : Fin 16) : sProp 𝕄 :=
  iprop(cred (tallyAt (sendCell c s) () Nout) ∗ cred (tallyAt (outCell c (sl s)) () Nout) ∗ atPos ER (outCell c (sl s)) (s.val / 2) ∅ 0
    ∗ atPos ER (sendCell c s) 0 ∅ 0)
/-- The half buffers' slots of step `n`, free. -/
def free (n : ℕ) : sProp 𝕄 :=
  iprop((∃ f, locPts (F := F) c (par n) f) ∗ (∃ f, remPts (F := F) c (par n) f) ∗ atPos ER (outCell c (par n)) (n / 2) ∅ 0
    ∗ reached ER (outCell c (par n)) (n / 2))
/-- The half buffers' slots of step `n`, before it. -/
def halves (n : ℕ) : sProp 𝕄 := if h : 2 ≤ n ∧ n < 18 then busy (F := F) c ⟨n - 2, by omega⟩ else free c n
/-- Copies out that are over: the rows written. -/
def wrote (s : Fin 16) : sProp 𝕄 := iprop(outPts c c s (outC m c) ∗ atPos ER (sendCell c s) 1 ∅ 0)

/-- Before step `n`. -/
def Inv (n : ℕ) : sProp 𝕄 :=
  iprop(owing c (Orem c n) ∗ bigSep (ge (n + 1)) (inDuty m c) ∗ bigSep (ge n) (outDuty (F := F) c) ∗ bigSep (ge n) (peerRows (F := F) c)
    ∗ fetched c n ∗ inFree c (n + 1) ∗ halves c n ∗ halves c (n + 1) ∗ bigSep (lt n) (xPts m c) ∗ bigSep (lt (n - 2)) (wrote m c))

variable (k : P F) (Q : Post F)

/-! ## One step -/

/-- The next step's fetch is started, if there is a next step. -/
theorem next_rule (n : ℕ) (h : n < 16) :
    iprop(records m K ∗ bigSep (ge (n + 1)) (inDuty m c) ∗ inFree c (n + 1))
      ⊢ iprop(((bigSep (ge (n + 2)) (inDuty m c) ∗ fetched c (n + 1)) -∗ run c k Q) -∗ run c (nextK ⟨n, h⟩ k) Q) := by
  unfold nextK fetched
  by_cases hn : n + 1 < 16
  · rw [dif_pos hn, if_pos hn, bigSep_ge (n + 1) hn]
    unfold inDuty inFree
    iintro ⟨#HK, ⟨⟨Ht, Hx⟩, Hrest⟩, Ha, Hr, Hs⟩ Hk
    iapply (start_in m K c ⟨n + 1, hn⟩ k Q) $$ [Hx Hs Ht Hr]
    · isplitr; · iexact HK
      isplitl [Hx]; · iexact Hx
      isplitl [Hs]; · iexact Hs
      isplitl [Ht]; · iexact Ht
      iexact Hr
    iintro Hc
    iapply Hk
    isplitl [Hrest]; · iexact Hrest
    isplitl [Ha]; · iexact Ha
    iexact Hc
  · have e : n = 15 := by omega
    subst e
    rw [dif_neg hn, if_neg hn, ge_all, show 15 + 2 = 17 from rfl, ge_more]
    iintro ⟨#HK, Hi, Hf⟩ Hk
    iapply Hk
    isplitl [Hi]; · iexact Hi
    iexact Hf

/-- The waits that free a slot. -/
theorem free_at (s : Fin 16) (n : ℕ) :
    iprop(records m K ∗ busy (F := F) c s ∗ owing c (Orem c n))
      ⊢ iprop(((free c (s.val + 2) ∗ owing c (Orem c n) ∗ wrote m c s) -∗ run c k Q) -∗ run c (waitSendK c s (waitOutK c s k)) Q) := by
  unfold busy
  iintro ⟨#HK, ⟨Hc1, Hc2, Ha2, Ha1⟩, HO⟩ Hk
  iapply (wait_send m K c s (waitOutK c s k) Q (Orem c n) (mayWait_rem c _ n (lv_send c s))) $$ [Hc1 HO Ha1]
  · isplitr; · iexact HK
    isplitl [Hc1]; · iexact Hc1
    isplitl [HO] <;> iassumption
  iintro ⟨HO, Ha1, -, Hp⟩
  iapply (wait_out m K c s k Q (Orem c n) (mayWait_rem c _ n (lv_out c _))) $$ [Hc2 HO Ha2]
  · isplitr; · iexact HK
    isplitl [Hc2]; · iexact Hc2
    isplitl [HO] <;> iassumption
  unfold outPay sendPay
  iintro ⟨HO, Ha2, Hr2, Ho, Hl⟩
  iapply Hk
  unfold free wrote
  rw [half_add, par_add]
  isplitl [Hl Hp Ha2 Hr2]
  · isplitl [Hl]; · iexact Hl
    isplitl [Hp]; · iexact Hp
    isplitl [Ha2]; · iexact Ha2
    iexact Hr2
  isplitl [HO]; · iexact HO
  isplitl [Ho]; · iexact Ho
  iexact Ha1

/-- From the third step on, the step's slot is freed. -/
theorem free_rule (n : ℕ) (h : n < 16) :
    iprop(records m K ∗ halves c n ∗ owing c (Orem c n) ∗ bigSep (lt (n - 2)) (wrote m c))
      ⊢ iprop(((free c n ∗ owing c (Orem c n) ∗ bigSep (lt (n + 1 - 2)) (wrote m c)) -∗ run c k Q) -∗ run c (freeK c ⟨n, h⟩ k) Q) := by
  unfold freeK halves
  by_cases hn : 2 ≤ n
  · obtain ⟨j, rfl⟩ : ∃ j, n = j + 2 := ⟨n - 2, by omega⟩
    have hj : j < 16 := by omega
    rw [dif_pos ⟨hn, by omega⟩, dif_pos hn]
    rw [show j + 2 + 1 - 2 = j + 1 from by omega, bigSep_lt j (by omega)]
    simp only [Nat.add_sub_cancel]
    iintro ⟨#HK, Hb, HO, Hw⟩ Hk
    iapply (free_at m K c k Q ⟨j, hj⟩ (j + 2)) $$ [Hb HO]
    · isplitr; · iexact HK
      isplitl [Hb] <;> iassumption
    iintro ⟨Hf, HO, Hd⟩
    iapply Hk
    isplitl [Hf]; · iexact Hf
    isplitl [HO]; · iexact HO
    isplitl [Hd] <;> iassumption
  · rw [dif_neg (fun h' => hn h'.1), dif_neg hn, show n + 1 - 2 = n - 2 from by omega]
    iintro ⟨#HK, Hb, HO, Hw⟩ Hk
    iapply Hk
    isplitl [Hb]; · iexact Hb
    isplitl [HO] <;> iassumption

/-- A step keeps the invariant. -/
theorem step_sound (n : ℕ) (h : n < 16) :
    iprop(records m K ∗ Inv m c n) ⊢ iprop((Inv m c (n + 1) -∗ run c k Q) -∗ run c (stepK c ⟨n, h⟩ k) Q) := by
  unfold Inv stepK
  rw [bigSep_ge n h (outDuty (F := F) c), bigSep_ge n h (peerRows (F := F) c), bigSep_lt n h,
    show fetched (F := F) c n = iprop(atPos ER (inCell c (par n)) (n / 2) ∅ 0 ∗ cred (tallyAt (inCell c (par n)) () Nin)) from if_pos h]
  iintro ⟨#HK, HO, Hin, ⟨Hout, Houts⟩, ⟨Hpr, Hprs⟩, Hfe, Hif, Hh, Hh1, Hx, Hw⟩ Hk
  icases Hfe with ⟨Ha, Hc⟩
  iapply (wait_in m K c ⟨n, h⟩ _ Q (Orem c n) (mayWait_rem c _ n (lv_in c _))) $$ [Hc HO Ha]
  · isplitr; · iexact HK
    isplitl [Hc]; · iexact Hc
    isplitl [HO]; · iexact HO
    iexact Ha
  unfold inPay
  iintro ⟨HO, Ha, Hr, Hi, Hxs⟩
  iapply (next_rule m K c _ Q n h) $$ [Hin Hif]
  · isplitr; · iexact HK
    isplitl [Hin] <;> iassumption
  iintro ⟨Hin, Hfe⟩
  iapply (free_rule m K c _ Q n h) $$ [Hh HO Hw]
  · isplitr; · iexact HK
    isplitl [Hh]; · iexact Hh
    isplitl [HO] <;> iassumption
  unfold free
  iintro ⟨⟨Hl, Hrm, Hao, Hro⟩, HO, Hw⟩
  iapply (fill m c ⟨n, h⟩ _ Q (sl ⟨n, h⟩) (xp c) (xq c)) $$ [Hi Hl Hrm]
  · isplitl [Hi]; · iexact Hi
    isplitl [Hl]; · iexact Hl
    iexact Hrm
  iintro ⟨Hi, Hl, Hrm⟩
  unfold outDuty peerRows
  icases Hout with ⟨Hto, Hts, Htr, Has, Hor⟩
  rw [Orem_step c n h]
  iapply (start_send m K c ⟨n, h⟩ _ Q _ (dev2_eq c) (Orem c (n + 1))) $$ [Hrm Hpr HO Hts Htr]
  · isplitr; · iexact HK
    isplitl [Hrm]; · iexact Hrm
    isplitl [Hpr]; · iexact Hpr
    isplitl [HO]; · iexact HO
    isplitl [Hts] <;> iassumption
  iintro ⟨Hcs, HO⟩
  iapply (start_out m K c ⟨n, h⟩ _ Q) $$ [Hl Hor Hto Hro]
  · isplitr; · iexact HK
    isplitl [Hl]; · iexact Hl
    isplitl [Hor]; · iexact Hor
    isplitl [Hto]; · iexact Hto
    iexact Hro
  iintro Hco
  iapply Hk
  isplitl [HO]; · iexact HO
  isplitl [Hin]; · iexact Hin
  isplitl [Houts]; · iexact Houts
  isplitl [Hprs]; · iexact Hprs
  isplitl [Hfe]; · iexact Hfe
  isplitl [Ha Hr Hi]
  · unfold inFree
    rw [show n + 1 + 1 = n + 2 from rfl, half_add, par_add]
    isplitl [Ha]; · iexact Ha
    isplitl [Hr]; · iexact Hr
    iexists _; iexact Hi
  isplitl [Hh1]; · iexact Hh1
  isplitl [Hcs Hco Hao Has]
  · unfold halves
    rw [dif_pos ⟨by omega, by omega⟩]
    unfold busy
    isplitl [Hcs]; · iexact Hcs
    isplitl [Hco]; · iexact Hco
    isplitl [Hao]; · iexact Hao
    iexact Has
  isplitl [Hx Hxs]
  · isplitl [Hxs] <;> iassumption
  iexact Hw

/-- The first `n` steps. -/
theorem steps_sound (n : ℕ) (h : n ≤ 16) (k : P F) :
    iprop(records m K ∗ Inv m c 0) ⊢ iprop((Inv m c n -∗ run c k Q) -∗ run c (steps c n h k) Q) := by
  induction n generalizing k with
  | zero =>
    iintro ⟨#HK, HI⟩ Hk
    iapply Hk; iexact HI
  | succ n ih =>
    iintro ⟨#HK, HI⟩ Hk
    iapply (ih (Nat.le_of_succ_le h) (stepK c ⟨n, h⟩ k)) $$ [HI]
    · isplitr <;> iassumption
    iintro HI
    iapply (step_sound m K c k Q n h) $$ [HI]
    · isplitr <;> iassumption
    iexact Hk

/-! ## The receipts -/

/-- A receipt still to come. -/
def toRecv (s : Fin 16) : sProp 𝕄 := iprop(cred (tallyAt (recvCell c s) () Nout) ∗ atPos ER (recvCell c s) 0 ∅ 0)
/-- A receipt that has come: the rows the peer wrote. -/
def got (s : Fin 16) : sProp 𝕄 := iprop(outPts c (peer c) s (outC m c) ∗ atPos ER (recvCell c s) 1 ∅ 0)

/-- A device that owes nothing may wait on any semaphore. -/
theorem mayWait_none (sm : SemLoc sig) : (levAts L lv : sProp 𝕄) ⊢ MayWait (c : Thread nD τ) sm () (Orem c 16) := by
  rw [Orem_all, MayWait_zero]
  iintro #H
  iempintro

theorem recvs_sound (n : ℕ) (h : n ≤ 16) (k : P F) :
    iprop(records m K ∗ owing c 0 ∗ bigSep Finset.univ (toRecv (F := F) c))
      ⊢ iprop(((owing c 0 ∗ bigSep (ge n) (toRecv (F := F) c) ∗ bigSep (lt n) (got m c)) -∗ run c k Q) -∗ run c (recvs c n h k) Q) := by
  induction n generalizing k with
  | zero =>
    rw [ge_zero, lt_zero, BI.bigSep_empty]
    iintro ⟨#HK, HO, HI⟩ Hk
    iapply Hk
    isplitl [HO]; · iexact HO
    isplitl [HI]; · iexact HI
    iempintro
  | succ n ih =>
    iintro ⟨#HK, HO, HI⟩ Hk
    iapply (ih (Nat.le_of_succ_le h) (waitRecvK c ⟨n, h⟩ k)) $$ [HO HI]
    · isplitr; · iexact HK
      isplitl [HO] <;> iassumption
    rw [bigSep_ge n h, bigSep_lt n h]
    unfold toRecv
    iintro ⟨HO, ⟨⟨Hc, Ha⟩, Hrest⟩, Hg⟩
    iapply (wait_recv m K c ⟨n, h⟩ k Q 0 (by rw [← Orem_all c]; exact mayWait_none c _)) $$ [Hc HO Ha]
    · isplitr; · iexact HK
      isplitl [Hc]; · iexact Hc
      isplitl [HO] <;> iassumption
    unfold recvPay got
    iintro ⟨HO, Ha, -, Hp⟩
    iapply Hk
    isplitl [HO]; · iexact HO
    isplitl [Hrest]; · iexact Hrest
    isplitl [Hp Ha]
    · isplitl [Hp] <;> iassumption
    iexact Hg

/-! ## The whole body -/

/-- What a device starts with, what it owes apart. -/
def begins : sProp 𝕄 :=
  iprop(bigSep Finset.univ (inDuty m c) ∗ bigSep Finset.univ (outDuty (F := F) c) ∗ barPay (F := F) (peer c)
    ∗ (inFree c 0 ∗ inFree c 1 ∗ free c 0 ∗ free c 1)
    ∗ dutyTok ER (barCell (peer c)) 0 () ∗ cred (tallyAt (barCell c) () 1) ∗ atPos ER (barCell c) 0 ∅ 0 ∗ bigSep Finset.univ (toRecv (F := F) c))
def atStart : sProp 𝕄 := iprop(owing c (O₀ c) ∗ begins m c)
/-- What it ends with. -/
def atEnd : sProp 𝕄 :=
  iprop(owing c 0 ∗ bigSep Finset.univ (xPts m c) ∗ bigSep Finset.univ (wrote m c) ∗ bigSep Finset.univ (got m c)
    ∗ (inFree c 16 ∗ inFree c 17 ∗ free c 16 ∗ free c 17) ∗ atPos ER (barCell c) 1 ∅ 0)

theorem halves_small (n : ℕ) (h : n < 2) : halves (F := F) c n = free c n := dif_neg fun h' => absurd h'.1 (by omega)
theorem halves_big (s : Fin 16) : halves (F := F) c (s.val + 2) = busy c s := dif_pos ⟨by omega, by omega⟩
theorem fetched_lt (n : ℕ) (h : n < 16) : fetched (F := F) c n = iprop(atPos ER (inCell c (par n)) (n / 2) ∅ 0 ∗ cred (tallyAt (inCell c (par n)) () Nin)) := if_pos h
theorem fetched_end : fetched (F := F) c 16 = inFree c 16 := if_neg (by decide)

/-- The first step's fetch, started ahead of everything. -/
theorem first_rule :
    iprop(records m K ∗ bigSep Finset.univ (inDuty m c) ∗ inFree c 0)
      ⊢ iprop(((bigSep (ge 1) (inDuty m c) ∗ fetched c 0) -∗ run c k Q) -∗ run c (startInK 0 k) Q) := by
  rw [← ge_zero, bigSep_ge 0 (by decide), fetched_lt c 0 (by decide)]
  unfold inDuty inFree
  iintro ⟨#HK, ⟨⟨Ht, Hx⟩, Hrest⟩, Ha, Hr, Hs⟩ Hk
  iapply (start_in m K c 0 k Q) $$ [Hx Hs Ht Hr]
  · isplitr; · iexact HK
    isplitl [Hx]; · iexact Hx
    isplitl [Hs]; · iexact Hs
    isplitl [Ht]; · iexact Ht
    iexact Hr
  iintro Hc
  iapply Hk
  isplitl [Hrest]; · iexact Hrest
  isplitl [Ha]; · iexact Ha
  iexact Hc

/-- The body takes what a device starts with to what it ends with. -/
theorem body_sound :
    iprop(records m K ∗ atStart m c) ⊢ iprop((atEnd m c -∗ run c (.ret ⟨⟩) Q) -∗ run c (bodyK c) Q) := by
  unfold atStart begins bodyK
  iintro ⟨#HK, HO, Hin, Hout, Hbp, ⟨Hi0, Hi1, Hf0, Hf1⟩, Htb, Hcb, Hab, Hrv⟩ Hk
  iapply (first_rule m K c _ Q) $$ [Hin Hi0]
  · isplitr; · iexact HK
    isplitl [Hin] <;> iassumption
  iintro ⟨Hin, Hi0⟩
  iapply (signal_peer m K c _ Q _ (dev1_eq c) (Orem c 0)) $$ [HO Htb Hbp]
  · isplitr; · iexact HK
    isplitl [HO]; · iexact HO
    isplitl [Htb] <;> iassumption
  iintro HO
  iapply (wait_bar m K c _ Q (Orem c 0) (mayWait_rem c _ 0 (lv_bar c))) $$ [Hcb HO Hab]
  · isplitr; · iexact HK
    isplitl [Hcb]; · iexact Hcb
    isplitl [HO] <;> iassumption
  unfold barPay
  iintro ⟨HO, Hab, -, Hbp⟩
  iapply (steps_sound m K c Q 16 (Nat.le_refl _) _) $$ [HO Hin Hout Hbp Hi0 Hi1 Hf0 Hf1]
  · isplitr; · iexact HK
    unfold Inv
    rw [halves_small c 0 (by decide), halves_small c (0 + 1) (by decide), ge_zero, lt_zero, BI.bigSep_empty, BI.bigSep_empty]
    isplitl [HO]; · iexact HO
    isplitl [Hin]; · iexact Hin
    isplitl [Hout]; · iexact Hout
    isplitl [Hbp]; · iexact Hbp
    isplitl [Hi0]; · iexact Hi0
    isplitl [Hi1]; · iexact Hi1
    isplitl [Hf0]; · iexact Hf0
    isplitl [Hf1]; · iexact Hf1
    isplitl <;> iempintro
  unfold Inv
  rw [show 16 + 1 = 17 from rfl, show 16 - 2 = 14 from rfl, show halves (F := F) c 16 = busy c 14 from halves_big c 14,
    show halves (F := F) c 17 = busy c 15 from halves_big c 15, fetched_end, lt_all]
  iintro ⟨HO, -, -, -, Hi0, Hi1, Hb0, Hb1, Hx, Hw⟩
  iapply (free_at m K c _ Q 14 16) $$ [Hb0 HO]
  · isplitr; · iexact HK
    isplitl [Hb0] <;> iassumption
  iintro ⟨Hf0, HO, Hw14⟩
  iapply (free_at m K c _ Q 15 16) $$ [Hb1 HO]
  · isplitr; · iexact HK
    isplitl [Hb1] <;> iassumption
  rw [Orem_all]
  iintro ⟨Hf1, HO, Hw15⟩
  iapply (recvs_sound m K c Q 16 (Nat.le_refl _) _) $$ [HO Hrv]
  · isplitr; · iexact HK
    isplitl [HO] <;> iassumption
  rw [lt_all]
  iintro ⟨HO, -, Hg⟩
  iapply Hk
  unfold atEnd
  isplitl [HO]; · iexact HO
  isplitl [Hx]; · iexact Hx
  isplitl [Hw Hw14 Hw15]
  · rw [← lt_all, bigSep_lt 15 (by decide), bigSep_lt 14 (by decide)]
    isplitl [Hw15]; · iexact Hw15
    isplitl [Hw14]; · iexact Hw14
    iexact Hw
  isplitl [Hg]; · iexact Hg
  isplitl [Hi0 Hi1 Hf0 Hf1]
  · isplitl [Hi0]; · iexact Hi0
    isplitl [Hi1]; · iexact Hi1
    isplitl [Hf0]; · iexact Hf0
    iexact Hf1
  iexact Hab

end Cert.AllToAll

end
-- ==== Proof.Sets.lean ====
/-
  Each buffer as the disjoint union of the parts it is held in: the argument of its steps' rows, the result of the rows its
  device writes and the rows its peer writes, each scratch buffer of its two slots.
-/
module

public import proofs.«01_k».proof.Proof.Body

@[expose] public section

noncomputable section

namespace Cert.AllToAll

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ UU ℕ

variable (m : (ℓ : Loc nD τ sig) → Buf (Elt F) ℓ) (c : Dev nD)

/-! ## Families of sets given by which member an element is in -/

theorem cover_univ {I T : Type} [Fintype I] [DecidableEq I] [Fintype T] (A : T → Finset I) (g : I → T) (h : ∀ t i, i ∈ A t ↔ g i = t) :
    Finset.univ.biUnion A = Finset.univ :=
  Finset.eq_univ_of_forall fun i => Finset.mem_biUnion.mpr ⟨g i, Finset.mem_univ _, (h _ _).mpr rfl⟩
theorem cover_disj {I T : Type} [DecidableEq I] (A : T → Finset I) (g : I → T) (h : ∀ t i, i ∈ A t ↔ g i = t) (S : Finset T) :
    ∀ t ∈ S, ∀ t' ∈ S, t ≠ t' → Disjoint (A t) (A t') := fun t _ t' _ hn =>
  Finset.disjoint_left.mpr fun i hi hi' => hn (((h t i).mp hi).symm.trans ((h t' i).mp hi'))

/-- A buffer held whole is its parts. -/
theorem split_of {ℓ : Loc nD τ sig} {T : Type} [Fintype T] (A : T → Finset (Idx ℓ)) (g : Idx ℓ → T) (h : ∀ t i, i ∈ A t ↔ g i = t) (f : Buf (Elt F) ℓ) :
    (ℓ ↦[Finset.univ]{fullShare} f : sProp 𝕄) = bigSep Finset.univ fun t => ℓ ↦[A t]{fullShare} f := by
  rw [← cover_univ A g h]; exact pointsTo_biUnion _ _ (cover_disj A g h _)
/-- The parts of a buffer, each at some contents, are the buffer at some contents. -/
theorem join_of {ℓ : Loc nD τ sig} {T : Type} [Fintype T] (A : T → Finset (Idx ℓ)) (g : Idx ℓ → T) (h : ∀ t i, i ∈ A t ↔ g i = t)
    (fs : T → Buf (Elt F) ℓ) (f₀ : Buf (Elt F) ℓ) :
    bigSep Finset.univ (fun t => ℓ ↦[A t]{fullShare} fs t) ⊢ (iprop(∃ f : Buf (Elt F) ℓ, ℓ ↦[Finset.univ]{fullShare} f) : sProp 𝕄) := by
  refine (pointsTo_biUnion_join _ A fs f₀ (cover_disj A g h _)).trans ?_
  rw [cover_univ A g h]
  iintro ⟨%f, -, H⟩
  iexists f; iexact H

/-! ## Which part an element is in -/

theorem mem_xChunk (s : Fin 16) (i : S16384x2048.Idx) :
    i ∈ (xChunk s).view.set ↔ (⟨(i 0).val / 1024, by have : (i 0).val < 16384 := (i 0).isLt; omega⟩ : Fin 16) = s := by
  have h0 : (i 0).val < 16384 := (i 0).isLt
  constructor
  · intro h
    obtain ⟨j, -, e⟩ := Finset.mem_map.mp h
    have hj : (j 0).val < 1024 := (j 0).isLt
    have e' : i = _ := e.symm.trans (xChunk_emb s j)
    have e0 : (i 0).val = 1024 * s.val + (j 0).val := by rw [e']
    exact Fin.ext (by show (i 0).val / 1024 = s.val; omega)
  · rintro rfl
    refine Finset.mem_map.mpr ⟨ix2 ⟨(i 0).val % 1024, Nat.mod_lt _ (by decide)⟩ (i 1), Finset.mem_univ _, (xChunk_emb _ _).trans ?_⟩
    refine funext fun a => Fin.ext ?_
    match a with
    | ⟨0, _⟩ => show 1024 * ((i 0).val / 1024) + (i 0).val % 1024 = (i 0).val; omega
    | ⟨1, _⟩ => rfl

theorem mem_inSlot (b : Fin 2) (i : S2x1024x2048.Idx) : i ∈ (inSlot b).view.set ↔ (i 0 : Fin 2) = b := by
  constructor
  · intro h
    obtain ⟨j, -, e⟩ := Finset.mem_map.mp h
    have e' : i = _ := e.symm.trans (inSlot_emb b j)
    rw [e']
  · rintro rfl
    refine Finset.mem_map.mpr ⟨ix2 (i 1) (i 2), Finset.mem_univ _, (inSlot_emb _ _).trans ?_⟩
    refine funext fun a => ?_
    match a with
    | ⟨0, _⟩ => rfl
    | ⟨1, _⟩ => rfl
    | ⟨2, _⟩ => rfl
theorem mem_locSlot (b : Fin 2) (i : S2x1024x1024.Idx) : i ∈ (locSlot b).view.set ↔ (i 0 : Fin 2) = b := by
  constructor
  · intro h
    obtain ⟨j, -, e⟩ := Finset.mem_map.mp h
    have e' : i = _ := e.symm.trans (locSlot_emb b j)
    rw [e']
  · rintro rfl
    refine Finset.mem_map.mpr ⟨ix2 (i 1) (i 2), Finset.mem_univ _, (locSlot_emb _ _).trans ?_⟩
    refine funext fun a => ?_
    match a with
    | ⟨0, _⟩ => rfl
    | ⟨1, _⟩ => rfl
    | ⟨2, _⟩ => rfl
theorem mem_remSlot (b : Fin 2) (i : S2x1024x1024.Idx) : i ∈ (remSlot b).view.set ↔ (i 0 : Fin 2) = b := mem_locSlot b i

theorem mem_oOut (d : Dev nD) (s : Fin 16) (i : S32768x1024.Idx) : i ∈ (oOut d s).view.set ↔ (i 0).val / 1024 = 16 * (xp d).val + s.val := by
  have h0 : (i 0).val < 32768 := (i 0).isLt
  constructor
  · intro h
    obtain ⟨j, -, e⟩ := Finset.mem_map.mp h
    have hj : (j 0).val < 1024 := (j 0).isLt
    have e' : i = _ := e.symm.trans (oOut_emb d s j)
    have e0 : (i 0).val = 16384 * (xp d).val + 1024 * s.val + (j 0).val := by rw [e']
    omega
  · intro h
    refine Finset.mem_map.mpr ⟨ix2 ⟨(i 0).val % 1024, Nat.mod_lt _ (by decide)⟩ (i 1), Finset.mem_univ _, (oOut_emb _ _ _).trans ?_⟩
    refine funext fun a => Fin.ext ?_
    match a with
    | ⟨0, _⟩ => show 16384 * (xp d).val + 1024 * s.val + (i 0).val % 1024 = (i 0).val; omega
    | ⟨1, _⟩ => rfl

/-- The parts of a result: the rows its own device writes, and those its peer writes. -/
def outPart (t : Fin 16 ⊕ Fin 16) : Finset S32768x1024.Idx := match t with
  | .inl s => (oOut c s).view.set
  | .inr s => (oOut (peer c) s).view.set
/-- Which part an element is in. -/
def whichPart (i : S32768x1024.Idx) : Fin 16 ⊕ Fin 16 :=
  if (i 0).val / 16384 = (xp c).val then .inl ⟨(i 0).val / 1024 % 16, Nat.mod_lt _ (by decide)⟩ else .inr ⟨(i 0).val / 1024 % 16, Nat.mod_lt _ (by decide)⟩
theorem mem_outPart (t : Fin 16 ⊕ Fin 16) (i : S32768x1024.Idx) : i ∈ outPart c t ↔ whichPart c i = t := by
  have h0 : (i 0).val < 32768 := (i 0).isLt
  have hx := (xp c).isLt
  have hp : (xp (peer c)).val = 1 - (xp c).val := by rw [xp_peer]; rfl
  unfold whichPart
  cases t with
  | inl s =>
    have hs := s.isLt
    refine (mem_oOut c s i).trans ?_
    split
    · rw [Sum.inl.injEq, Fin.ext_iff]; show _ ↔ (i 0).val / 1024 % 16 = s.val; omega
    · refine ⟨fun h => ?_, fun h => nomatch h⟩; omega
  | inr s =>
    have hs := s.isLt
    refine (mem_oOut (peer c) s i).trans ?_
    rw [hp]
    split
    · refine ⟨fun h => ?_, fun h => nomatch h⟩; omega
    · rw [Sum.inr.injEq, Fin.ext_iff]; show _ ↔ (i 0).val / 1024 % 16 = s.val; omega

/-! ## The buffers -/

theorem x_split : (((c : Thread nD τ).loc main_arg0) ↦{fullShare} X m c : sProp 𝕄) = bigSep Finset.univ (xPts m c) :=
  split_of (ℓ := (c : Thread nD τ).loc main_arg0) (fun s : Fin 16 => (xChunk s).view.set) (fun i => ⟨(i 0).val / 1024, by have : (i 0).val < 16384 := (i 0).isLt; omega⟩)
    mem_xChunk (X m c)

theorem out_split (f : S32768x1024.Idx → Elt F .bf16) : (((c : Thread nD τ).loc main_v1) ↦{fullShare} f : sProp 𝕄)
    = iprop((bigSep Finset.univ fun s => outPts c c s f) ∗ bigSep Finset.univ fun s => outPts c (peer c) s f) :=
  (split_of (ℓ := (c : Thread nD τ).loc main_v1) (outPart c) (whichPart c) (mem_outPart c) f).trans (bigSep_univ_sum _)

theorem in_split (f : S2x1024x2048.Idx → Elt F .f32) : (((c : Thread nD τ).loc cc0_scratch4) ↦{fullShare} f : sProp 𝕄)
    = iprop(inPts c 0 f ∗ inPts c 1 f) :=
  (split_of (ℓ := (c : Thread nD τ).loc cc0_scratch4) (fun b : Fin 2 => (inSlot b).view.set) (fun i => i 0) mem_inSlot f).trans (bigSep_univ_two _)
theorem loc_split (f : S2x1024x1024.Idx → Elt F .bf16) : (((c : Thread nD τ).loc cc0_scratch5) ↦{fullShare} f : sProp 𝕄)
    = iprop(locPts c 0 f ∗ locPts c 1 f) :=
  (split_of (ℓ := (c : Thread nD τ).loc cc0_scratch5) (fun b : Fin 2 => (locSlot b).view.set) (fun i => i 0) mem_locSlot f).trans (bigSep_univ_two _)
theorem rem_split (f : S2x1024x1024.Idx → Elt F .bf16) : (((c : Thread nD τ).loc cc0_scratch6) ↦{fullShare} f : sProp 𝕄)
    = iprop(remPts c 0 f ∗ remPts c 1 f) :=
  (split_of (ℓ := (c : Thread nD τ).loc cc0_scratch6) (fun b : Fin 2 => (remSlot b).view.set) (fun i => i 0) mem_remSlot f).trans (bigSep_univ_two _)

/-- Two slots, each at some contents, from contents of either. -/
def two {α : Type} (x y : α) (b : Fin 2) : α := if b = 0 then x else y

theorem two_zero {α : Type} (x y : α) : two x y 0 = x := if_pos rfl
theorem two_one {α : Type} (x y : α) : two x y 1 = y := if_neg (by decide)

theorem in_join : iprop((∃ f, inPts (F := F) c 0 f) ∗ (∃ f, inPts (F := F) c 1 f))
    ⊢ (iprop(∃ f : Buf (Elt F) ((c : Thread nD τ).loc cc0_scratch4), ((c : Thread nD τ).loc cc0_scratch4) ↦{fullShare} f) : sProp 𝕄) := by
  iintro ⟨⟨%f, H⟩, ⟨%g, H'⟩⟩
  iapply ((Entails.of_eq (bigSep_univ_two (fun b => inPts c b (two f g b))).symm).trans
    (join_of (ℓ := (c : Thread nD τ).loc cc0_scratch4) (fun b : Fin 2 => (inSlot b).view.set) (fun i => i 0) mem_inSlot (two f g) f))
  rw [two_zero, two_one]
  isplitl [H] <;> iassumption
theorem loc_join : iprop((∃ f, locPts (F := F) c 0 f) ∗ (∃ f, locPts (F := F) c 1 f))
    ⊢ (iprop(∃ f : Buf (Elt F) ((c : Thread nD τ).loc cc0_scratch5), ((c : Thread nD τ).loc cc0_scratch5) ↦{fullShare} f) : sProp 𝕄) := by
  iintro ⟨⟨%f, H⟩, ⟨%g, H'⟩⟩
  iapply ((Entails.of_eq (bigSep_univ_two (fun b => locPts c b (two f g b))).symm).trans
    (join_of (ℓ := (c : Thread nD τ).loc cc0_scratch5) (fun b : Fin 2 => (locSlot b).view.set) (fun i => i 0) mem_locSlot (two f g) f))
  rw [two_zero, two_one]
  isplitl [H] <;> iassumption
theorem rem_join : iprop((∃ f, remPts (F := F) c 0 f) ∗ (∃ f, remPts (F := F) c 1 f))
    ⊢ (iprop(∃ f : Buf (Elt F) ((c : Thread nD τ).loc cc0_scratch6), ((c : Thread nD τ).loc cc0_scratch6) ↦{fullShare} f) : sProp 𝕄) := by
  iintro ⟨⟨%f, H⟩, ⟨%g, H'⟩⟩
  iapply ((Entails.of_eq (bigSep_univ_two (fun b => remPts c b (two f g b))).symm).trans
    (join_of (ℓ := (c : Thread nD τ).loc cc0_scratch6) (fun b : Fin 2 => (remSlot b).view.set) (fun i => i 0) mem_remSlot (two f g) f))
  rw [two_zero, two_one]
  isplitl [H] <;> iassumption

end Cert.AllToAll

end
-- ==== Proof.Ends.lean ====
/-
  What a device starts the body with, put together from its buffers and from what the launch deals it; what it ends the
  body with, taken back to its buffers and its semaphores at zero.
-/
module

public import proofs.«01_k».proof.Proof.Sets
public import Idealize.ShloMosaic.Lib.Rounds.Family

@[expose] public section

noncomputable section

namespace Cert.AllToAll

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × KC → ℕ) (c : Dev nD)

/-- A family over a device's cells is its members, kind by kind. -/
theorem bigSep_KC (Φ : KC → sProp 𝕄) : bigSep Finset.univ Φ
    = iprop((((Φ (.inl (.inl (.inl 0))) ∗ Φ (.inl (.inl (.inl 1)))) ∗ (Φ (.inl (.inl (.inr 0))) ∗ Φ (.inl (.inl (.inr 1)))))
      ∗ ((bigSep Finset.univ fun s => Φ (.inl (.inr (.inl s)))) ∗ bigSep Finset.univ fun s => Φ (.inl (.inr (.inr s))))) ∗ Φ (.inr ())) := by
  rw [BI.bigSep_univ_sum, BI.bigSep_univ_sum, BI.bigSep_univ_sum, BI.bigSep_univ_sum, bigSep_univ_two, bigSep_univ_two, BI.bigSep_univ_of_subsingleton ()]
  rfl

/-- The rights to the duties device `c` pays: its own fetches, copies out and transfers, the peer's receipts, the peer's
    barrier. -/
def payToks : sProp 𝕄 :=
  iprop((bigSep Finset.univ fun s : Fin 16 => dutyTok ER (inCell c (sl s)) (s.val / 2) ())
    ∗ (bigSep Finset.univ fun s : Fin 16 => dutyTok ER (outCell c (sl s)) (s.val / 2) ())
    ∗ (bigSep Finset.univ fun s : Fin 16 => dutyTok ER (sendCell c s) 0 ())
    ∗ (bigSep Finset.univ fun s : Fin 16 => dutyTok ER (recvCell (peer c) s) 0 ()) ∗ dutyTok ER (barCell (peer c)) 0 ())
/-- Its positions at round 0 of its cells, and those rights. -/
def linear : sProp 𝕄 := iprop((bigSep Finset.univ fun k : KC => atPos ER (kcell (c, k)) 0 ∅ 0) ∗ payToks (F := F) c)
/-- What the peer owes it. -/
def dues : sProp 𝕄 := iprop(cred (tallyAt (barCell c) () 1) ∗ bigSep Finset.univ fun s : Fin 16 => cred (tallyAt (recvCell c s) () Nout))
/-- The scratch buffers, at some contents. -/
def scratch : sProp 𝕄 :=
  iprop((∃ f : Buf (Elt F) ((c : Thread nD τ).loc cc0_scratch4), ((c : Thread nD τ).loc cc0_scratch4) ↦{fullShare} f)
    ∗ (∃ f : Buf (Elt F) ((c : Thread nD τ).loc cc0_scratch5), ((c : Thread nD τ).loc cc0_scratch5) ↦{fullShare} f)
    ∗ (∃ f : Buf (Elt F) ((c : Thread nD τ).loc cc0_scratch6), ((c : Thread nD τ).loc cc0_scratch6) ↦{fullShare} f))

theorem some_pts (c d : Dev nD) (s : Fin 16) (f : S32768x1024.Idx → Elt F .bf16) :
    (outPts c d s f : sProp 𝕄) ⊢ iprop(∃ f, outPts (F := F) c d s f) := by
  iintro H; iexists f; iexact H

theorem out_some (c : Dev nD) (f : S32768x1024.Idx → Elt F .bf16) : (((c : Thread nD τ).loc main_v1) ↦{fullShare} f : sProp 𝕄)
    ⊢ iprop((bigSep Finset.univ fun s : Fin 16 => iprop(∃ f, outPts (F := F) c c s f)) ∗ barPay (F := F) (peer c)) := by
  rw [out_split]
  unfold barPay
  rw [peer_peer]
  have h (d : Dev nD) : (bigSep Finset.univ fun s : Fin 16 => outPts (F := F) c d s f) ⊢ bigSep Finset.univ fun s : Fin 16 => iprop(∃ f, outPts (F := F) c d s f) :=
    bigSep_mono fun s _ => some_pts c d s f
  iintro ⟨H1, H2⟩
  isplitl [H1]
  · iapply (h c); iexact H1
  · iapply (h (peer c)); iexact H2

theorem begins_intro (f : S32768x1024.Idx → Elt F .bf16) :
    iprop(records m K ∗ linear c ∗ dues c ∗ (((c : Thread nD τ).loc main_arg0) ↦{fullShare} X m c)
        ∗ (((c : Thread nD τ).loc main_v1) ↦{fullShare} f) ∗ scratch c) ⊢ begins m c := by
  unfold linear payToks dues scratch begins
  rw [bigSep_KC, x_split]
  iintro ⟨#HK, ⟨⟨⟨⟨⟨Hi0, Hi1⟩, Ho0, Ho1⟩, Hs, Hv⟩, Hb⟩, Tin, Tout, Tsend, Trecv, Tbar⟩, ⟨Cb, Cv⟩, Hx, Hout, ⟨%f4, S4⟩, ⟨%f5, S5⟩, ⟨%f6, S6⟩⟩
  ihave Hout := (out_some c f) $$ Hout
  icases Hout with ⟨Hown, Hpeer⟩
  ihave S4 := (Entails.of_eq (in_split c f4)) $$ S4
  ihave S5 := (Entails.of_eq (loc_split c f5)) $$ S5
  ihave S6 := (Entails.of_eq (rem_split c f6)) $$ S6
  icases S4 with ⟨S40, S41⟩
  icases S5 with ⟨S50, S51⟩
  icases S6 with ⟨S60, S61⟩
  unfold inDuty outDuty toRecv
  simp only [bigSep_sep']
  isplitl [Tin Hx]
  · isplitl [Tin] <;> iassumption
  isplitl [Tout Tsend Trecv Hs Hown]
  · isplitl [Tout]; · iexact Tout
    isplitl [Tsend]; · iexact Tsend
    isplitl [Trecv]; · iexact Trecv
    isplitl [Hs]; · iexact Hs
    iexact Hown
  isplitl [Hpeer]; · iexact Hpeer
  isplitl [Hi0 Hi1 Ho0 Ho1 S40 S41 S50 S51 S60 S61]
  · unfold inFree free
    isplitl [Hi0 S40]
    · isplitl [Hi0]; · iexact Hi0
      isplitr; · iapply (reached_at m K (kIn c 0)); iexact HK
      iexists f4; iexact S40
    isplitl [Hi1 S41]
    · isplitl [Hi1]; · iexact Hi1
      isplitr; · iapply (reached_at m K (kIn c 1)); iexact HK
      iexists f4; iexact S41
    isplitl [Ho0 S50 S60]
    · isplitl [S50]; · iexists f5; iexact S50
      isplitl [S60]; · iexists f6; iexact S60
      isplitl [Ho0]; · iexact Ho0
      iapply (reached_at m K (kOut c 0)); iexact HK
    isplitl [S51]; · iexists f5; iexact S51
    isplitl [S61]; · iexists f6; iexact S61
    isplitl [Ho1]; · iexact Ho1
    iapply (reached_at m K (kOut c 1)); iexact HK
  isplitl [Tbar]; · iexact Tbar
  isplitl [Cb]; · iexact Cb
  isplitl [Hb]; · iexact Hb
  isplitl [Cv]; · iexact Cv
  iexact Hv

/-! ## The end -/

/-- How many rounds a cell has gone through at the end: all it has. -/
def lastR : KC → ℕ
  | .inl (.inl _) => 8
  | .inl (.inr _) => 1
  | .inr _ => 1
theorem lastR_eq (k : KC) : lastR k = roundsOf (csem k) := by
  rcases k with ((b | b) | (s | s)) | u
  · exact (rounds_in b).symm
  · exact (rounds_out b).symm
  · exact (rounds_send s).symm
  · exact (rounds_recv s).symm
  · exact rounds_bar.symm

/-- The cells close, their counters at zero. -/
theorem close_cells :
    iprop(records m K ∗ bigSep Finset.univ fun k : KC => atPos ER (kcell (c, k)) (lastR k) ∅ 0)
      ⊢ (|={Set.univ}=> bigSep Finset.univ fun k : KC => semVal (kcell (c, k)) 0 : sProp 𝕄) :=
  (bigSep_with_persistent (R := records m K) (Ψ := fun k : KC => iprop(cellInv ER (Rd m) (K (c, k)) (kcell (c, k)) ∗ atPos ER (kcell (c, k)) (lastR k) ∅ 0))
    fun k _ => by
      iintro ⟨#HK, H⟩
      isplitr; · iapply (inv_at m K (c, k)); iexact HK
      iexact H).trans
  (Rounds.cells_close ER (Rd m) Finset.univ (fun k : KC => kcell (c, k)) (fun k => K (c, k)) (fun _ _ => Set.mem_univ _) (fun _ _ h => h) lastR
    fun k _ r hr => duties_later m c (csem k) r (by rw [← lastR_eq]; exact hr))

/-- The semaphores at zero, the barrier's apart. -/
theorem sems_eq :
    (bigSep Finset.univ fun k : KC => semVal (kcell (c, k)) 0 : sProp 𝕄)
      = iprop(Pipeline.ownSems0 (Ix := Unit) (Name := ℕ) (U := UU) (Lvl := ℕ) (Val := Elt F) (τ := τ) osem c ∗ unscopedSems0 c) := by
  have h : (unscopedSems0 c : sProp 𝕄) = semVal (barCell c) 0 := by
    unfold unscopedSems0; rw [bigSep_eq_bigSepL_of_eq [SemLoc.reg barS] (by decide) (by decide)]; rfl
  rw [h, BI.bigSep_univ_sum, BI.bigSep_univ_of_subsingleton ()]
  rfl

/-- What a device has at the end of the body. -/
def ended : sProp 𝕄 :=
  iprop((((c : Thread nD τ).loc main_arg0) ↦{fullShare} X m c) ∗ (((c : Thread nD τ).loc main_v1) ↦{fullShare} outC m c) ∗ scratch (F := F) c
    ∗ Pipeline.ownSems0 (Ix := Unit) (Name := ℕ) (U := UU) (Lvl := ℕ) (Val := Elt F) (τ := τ) osem c ∗ unscopedSems0 c)

theorem ended_intro : iprop(records m K ∗ atEnd m c) ⊢ (|={Set.univ}=> iprop(owing c 0 ∗ ended m c) : sProp 𝕄) := by
  unfold atEnd wrote got
  simp only [bigSep_sep']
  unfold inFree free
  iintro ⟨#HK, HO, Hx, ⟨How, Hs⟩, ⟨Hpw, Hv⟩, ⟨⟨Hi0, -, S40⟩, ⟨Hi1, -, S41⟩, ⟨S50, S60, Ho0, -⟩, S51, S61, Ho1, -⟩, Hb⟩
  imod (close_cells m K c) $$ [Hi0 Hi1 Ho0 Ho1 Hs Hv Hb] with Hz
  · isplitr; · iexact HK
    rw [bigSep_KC]
    isplitr [Hb]
    · isplitl [Hi0 Hi1 Ho0 Ho1]
      · isplitl [Hi0 Hi1]
        · isplitl [Hi0]; · iexact Hi0
          iexact Hi1
        isplitl [Ho0]; · iexact Ho0
        iexact Ho1
      isplitl [Hs]; · iexact Hs
      iexact Hv
    iexact Hb
  ihave Hz := (Entails.of_eq (sems_eq (F := F) c)) $$ Hz
  imodintro
  isplitl [HO]; · iexact HO
  unfold ended scratch
  rw [x_split, out_split]
  isplitl [Hx]; · iexact Hx
  isplitl [How Hpw]
  · isplitl [How]; · iexact How
    iexact Hpw
  isplitl [S40 S41 S50 S51 S60 S61]
  · isplitl [S40 S41]
    · iapply (in_join (F := F) c)
      isplitl [S40]; · iexact S40
      iexact S41
    isplitl [S50 S51]
    · iapply (loc_join (F := F) c)
      isplitl [S50]; · iexact S50
      iexact S51
    iapply (rem_join (F := F) c)
    isplitl [S60]; · iexact S60
    iexact S61
  iexact Hz

end Cert.AllToAll

end
-- ==== Proof.BodyEq.lean ====
/-
  The printed body is the sequence of sixteen steps: on each device of the mesh, by definitional unfolding.
-/
module

public import proofs.«01_k».proof.Proof.Prog

@[expose] public section

noncomputable section

namespace Cert.AllToAll

open Cert.KernelIdeal Cert.KernelIdeal.Gen
open Idealize.ShloMosaic Idealize.ShloMosaic.TcCoe
open Idealize.SL.Sem

variable {F : FTy → Type} [FloatOps F]

/-- What a program does once it has read its device, `d`. -/
def after (d : Dev nD) : P F → P F
  | .op .deviceId k => k d
  | e => e

set_option maxRecDepth 65536 in
/-- On every device, the printed body after its first operation, which reads the device, is the sequence of steps. -/
theorem after_body (d : Dev nD) : after d (bodyAt0 (F := F) t0_0) = bodyK d := by
  fin_cases d <;> chain_rfl

/-- The printed body reads its device and goes on with the sequence of steps. -/
theorem body_eq : bodyAt0 (F := F) t0_0 = .op .deviceId fun d => bodyK d := by
  have h : bodyAt0 (F := F) t0_0 = .op .deviceId fun d => after d (bodyAt0 (F := F) t0_0) := by chain_rfl
  rw [h]
  exact congrArg _ (funext after_body)

end Cert.AllToAll

end
-- ==== Proof.Launch.lean ====
/-
  The run: the semaphores set up as rounds before the launch, the rights to their duties dealt to the devices that pay
  them, each device's body between what it starts with and what it ends with, and what every final state holds.
-/
module

public import proofs.«01_k».proof.Proof.Ends
public import proofs.«01_k».proof.Proof.BodyEq
public import Idealize.ShloMosaic.Lib.Pipeline.CollectiveSegs

@[expose] public section

noncomputable section

namespace Cert.AllToAll

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.StableHlo
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

/-! ## The cells are distinct, and so are the duties -/

theorem ownSemFacts : Pipeline.OwnSemFacts cfg0.spec osem := by decide

/-- A number telling a device's semaphores apart. -/
def semCode : SemLoc sig → ℕ
  | .dma q => q.val
  | .reg _ => 36

theorem csem_injective : Function.Injective csem := by
  intro k k' h
  have h' := congrArg semCode h
  rcases k with ((b | b) | (s | s)) | u <;> rcases k' with ((b' | b') | (s' | s')) | u' <;>
    simp only [csem, osem, semCode, inS_val, outS_val, sendS_val, recvS_val] at h' <;>
    first
      | rfl
      | (exfalso; omega)
      | (have : b = b' := Fin.ext (by omega)
         rw [this])
      | (have : s = s' := Fin.ext (by omega)
         rw [this])

theorem kcell_injective : Function.Injective (kcell : Dev nD × KC → GSem nD τ sig) := by
  rintro ⟨c, k⟩ ⟨c', k'⟩ h
  have h1 : c = c' := congrArg (fun g : GSem nD τ sig => g.1.1) h
  have h2 : k = k' := csem_injective (congrArg Prod.snd h)
  rw [h1, h2]

/-- A device's duties: a fetch and a copy out per step, a transfer and a receipt per step, the barrier. -/
abbrev KT : Type := ((Fin 16 ⊕ Fin 16) ⊕ (Fin 16 ⊕ Fin 16)) ⊕ Unit
/-- The cell of a duty, and the duty's round. -/
def cellOf : KT → KC
  | .inl (.inl (.inl s)) => .inl (.inl (.inl (sl s)))
  | .inl (.inl (.inr s)) => .inl (.inl (.inr (sl s)))
  | .inl (.inr (.inl s)) => .inl (.inr (.inl s))
  | .inl (.inr (.inr s)) => .inl (.inr (.inr s))
  | .inr _ => .inr ()
def roundAt : KT → ℕ
  | .inl (.inl (.inl s)) => s.val / 2
  | .inl (.inl (.inr s)) => s.val / 2
  | _ => 0
def tokOf (cj : Dev nD × KT) : GSem nD τ sig × ℕ × Unit := (kcell (cj.1, cellOf cj.2), roundAt cj.2, ())

theorem slot_round (s s' : Fin 16) (h : sl s = sl s') (h' : s.val / 2 = s'.val / 2) : s = s' := by
  rw [← stp_sl s, ← stp_sl s', h, h']

theorem duty_injective (j j' : KT) (h : cellOf j = cellOf j') (h' : roundAt j = roundAt j') : j = j' := by
  rcases j with ((s | s) | (s | s)) | u <;> rcases j' with ((s' | s') | (s' | s')) | u' <;> simp only [cellOf, roundAt] at h h'
  case inl.inl.inl.inl.inl.inl => injection h with h; injection h with h; injection h with h; rw [slot_round s s' h h']
  case inl.inl.inr.inl.inl.inr => injection h with h; injection h with h; injection h with h; rw [slot_round s s' h h']
  case inl.inr.inl.inl.inr.inl => injection h with h; injection h with h; injection h with h; rw [h]
  case inl.inr.inr.inl.inr.inr => injection h with h; injection h with h; injection h with h; rw [h]
  case inr.inr => rfl
  all_goals exact absurd h (by simp)

theorem tokOf_injective : Function.Injective tokOf := by
  rintro ⟨c, j⟩ ⟨c', j'⟩ h
  have h1 := kcell_injective (congrArg Prod.fst h)
  have h2 : roundAt j = roundAt j' := congrArg (fun x : GSem nD τ sig × ℕ × Unit => x.2.1) h
  rw [show c = c' from congrArg Prod.fst h1, duty_injective j j' (congrArg Prod.snd h1) h2]

def allCells : Finset (GSem nD τ sig) := Finset.univ.map ⟨kcell, kcell_injective⟩
def allToks : Finset (GSem nD τ sig × ℕ × Unit) := Finset.univ.map ⟨tokOf, tokOf_injective⟩

def u₀ : UU := (initOf (Pipeline.cells cfgs cellOf_inj) (Pipeline.launchToks cfgs cellOf_inj), initOf allCells allToks)

/-! ## What the launch deals -/

/-- The duties of device `c`'s own cells. -/
def toks (c : Dev nD) : sProp 𝕄 := bigSep Finset.univ fun j : KT => dutyTok ER (tokOf (c, j)).1 (tokOf (c, j)).2.1 (tokOf (c, j)).2.2

/-- What the launch's element gives a device: its cells' states, its positions, its cells' duties. -/
def G (c : Dev nD) : sProp 𝕄 :=
  iprop((bigSep Finset.univ fun k : KC => roundState ER (Rd m) (kcell (c, k)) 0)
    ∗ (bigSep Finset.univ fun k : KC => iprop(atPos ER (kcell (c, k)) 0 ∅ 0 ∗ reached ER (kcell (c, k)) 0)) ∗ toks c)

/-- All cells' invariants and that their round 0 is reached. -/
def shared (K : Dev nD × KC → ℕ) : sProp 𝕄 :=
  iprop((bigSep Finset.univ fun ck : Dev nD × KC => cellInv ER (Rd m) (K ck) (kcell ck)) ∗ bigSep Finset.univ fun ck : Dev nD × KC => reached ER (kcell ck) 0)

instance shared_persistent (K : Dev nD × KC → ℕ) : BI.Persistent (shared m K) := by unfold shared; infer_instance

/-- What a device has once the cells are set up. -/
def G' (c : Dev nD) : sProp 𝕄 := iprop(∃ K, shared m K ∗ linear c)

theorem fund : BI.own (ER (initOf allCells allToks)) ⊢ (|==> bigSep Finset.univ (G m) : sProp 𝕄) := by
  have hC (Φ : GSem nD τ sig → sProp 𝕄) : bigSep allCells Φ = bigSep Finset.univ fun c : Dev nD => bigSep Finset.univ fun k : KC => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]; rfl
  iintro H
  imod (Rounds.fund ER (Rd m) allCells allToks) $$ H with ⟨Hs, Hr, Ha, Ht⟩
  imodintro
  ihave Hs := (Entails.of_eq (hC fun g => roundState ER (Rd m) g 0)) $$ Hs
  ihave Ha := (Entails.of_eq (hC fun g => atPos ER g 0 ∅ 0)) $$ Ha
  ihave Hr := (Entails.of_eq (hC fun g => reached ER g 0)) $$ Hr
  ihave Ht := (Entails.of_eq hT) $$ Ht
  unfold G; simp only [bigSep_sep']
  isplitl [Hs]; · iexact Hs
  isplitl [Ha Hr]
  · isplitl [Ha]; · iexact Ha
    iexact Hr
  iexact Ht

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : KC => iprop(∃ κ : ℕ, cellInv ER (Rd m) κ (kcell (c, k))))
          ∗ (bigSep Finset.univ fun k : KC => iprop(atPos ER (kcell (c, k)) 0 ∅ 0 ∗ reached ER (kcell (c, k)) 0)) ∗ toks c) := by
  unfold G
  iintro ⟨Ho, Hu, Hs, Hr⟩
  ihave Hv := (Entails.of_eq (sems_eq (F := F) c).symm) $$ [Ho Hu]
  · isplitl [Ho]; · iexact Ho
    iexact Hu
  imod (show iprop((bigSep Finset.univ fun k : KC => semVal (kcell (c, k)) 0) ∗ bigSep Finset.univ fun k : KC => roundState ER (Rd m) (kcell (c, k)) 0)
      ⊢ (|={Set.univ}=> bigSep Finset.univ fun k : KC => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hs] with Hi
  · isplitl [Hv]; · iexact Hv
    iexact Hs
  imodintro
  isplitl [Hi]; · iexact Hi
  iexact Hr

/-- The exchange of the two devices of a pair. -/
def swap : Dev nD ≃ Dev nD := ⟨peer, peer, peer_peer, peer_peer⟩

/-- Every device pays its own fetches, copies out and transfers, and its peer's receipts and barrier. -/
theorem toks_dealt : (bigSep Finset.univ fun c : Dev nD => (toks c : sProp 𝕄)) ⊢ bigSep Finset.univ fun c : Dev nD => payToks c := by
  have h (c : Dev nD) : (toks c : sProp 𝕄)
      = iprop((((bigSep Finset.univ fun s : Fin 16 => dutyTok ER (inCell c (sl s)) (s.val / 2) ()) ∗ (bigSep Finset.univ fun s : Fin 16 => dutyTok ER (outCell c (sl s)) (s.val / 2) ()))
          ∗ (bigSep Finset.univ fun s : Fin 16 => dutyTok ER (sendCell c s) 0 ()) ∗ (bigSep Finset.univ fun s : Fin 16 => dutyTok ER (recvCell c s) 0 ()))
          ∗ dutyTok ER (barCell c) 0 ()) := by
    unfold toks
    rw [BI.bigSep_univ_sum, BI.bigSep_univ_sum, BI.bigSep_univ_sum, BI.bigSep_univ_sum, BI.bigSep_univ_of_subsingleton ()]
    rfl
  simp only [h]
  unfold payToks
  simp only [bigSep_sep']
  rw [bigSep_univ_equiv swap (fun c : Dev nD => (bigSep Finset.univ fun s : Fin 16 => dutyTok ER (recvCell c s) 0 () : sProp 𝕄)),
    bigSep_univ_equiv swap (fun c : Dev nD => (dutyTok ER (barCell c) 0 () : sProp 𝕄))]
  iintro ⟨⟨⟨H1, H2⟩, H3, H4⟩, H5⟩
  isplitl [H1]; · iexact H1
  isplitl [H2]; · iexact H2
  isplitl [H3]; · iexact H3
  isplitl [H4]; · iexact H4
  iexact H5

theorem regroup :
    (bigSep Finset.univ fun c : Dev nD => iprop((bigSep Finset.univ fun k : KC => iprop(∃ κ : ℕ, cellInv ER (Rd m) κ (kcell (c, k))))
          ∗ (bigSep Finset.univ fun k : KC => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × KC => iprop(∃ κ : ℕ, cellInv ER (Rd m) κ (kcell ck))),
    bigSep_congr (s := Finset.univ) (fun (c : Dev nD) _ => bigSep_sep' Finset.univ (fun k : KC => (atPos ER (kcell (c, k)) 0 ∅ 0 : sProp 𝕄)) (fun k => reached ER (kcell (c, k)) 0)),
    bigSep_sep', ← bigSep_univ_prod (fun ck : Dev nD × KC => (reached ER (kcell ck) 0 : sProp 𝕄))]
  iintro ⟨HI, ⟨Ha, #HR⟩, Ht⟩
  ihave HK := (BI.bigSep_exists_pi Finset.univ (fun (ck : Dev nD × KC) (κ : ℕ) => (cellInv ER (Rd m) κ (kcell ck) : sProp 𝕄))) $$ HI
  icases HK with ⟨%K, #HI⟩
  ihave Ht := (toks_dealt (F := F)) $$ Ht
  iapply (bigSep_with_persistent (R := shared m K) (Φ := fun c : Dev nD => linear c) (Ψ := G' m) fun c _ => by
    unfold G'; iintro ⟨#HS, H⟩; iexists K; isplitr; · iexact HS
    iexact H)
  isplitr
  · unfold shared; isplitl; · iexact HI
    iexact HR
  · unfold linear; simp only [bigSep_sep']
    isplitl [Ha]; · iexact Ha
    iexact Ht

/-- The cells of all devices are set up at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## What a device is owed -/

theorem recv_eq {c d : Dev nD} {s s' : Fin 16} (h : recvCell c s = recvCell d s') : c = d ∧ s = s' := by
  have h' := @kcell_injective (kRecv c s) (kRecv d s') h
  injection h' with h1 h2
  injection h2 with h2; injection h2 with h2; injection h2 with h2
  exact ⟨h1, h2⟩
theorem bar_eq {c d : Dev nD} (h : barCell c = barCell d) : c = d := congrArg (fun g : GSem nD τ sig => g.1.1) h
theorem recv_ne_bar (c d : Dev nD) (s : Fin 16) : ¬ recvCell c s = barCell d := fun h => by
  have := congrArg Prod.snd h; cases this

theorem owed_recv (c d : Dev nD) (s : Fin 16) : O₀ d (recvCell c s) () = if d = peer c then Nout else 0 := by
  unfold O₀ Orem
  rw [Pi.add_apply, Finsupp.add_apply, Finset.sum_apply, Finsupp.finset_sum_apply, tallyAt_apply, if_neg (fun h => recv_ne_bar _ _ _ h.1), Nat.add_zero]
  simp only [tallyAt_apply]
  by_cases h : d = peer c
  · subst h
    rw [if_pos rfl, Finset.sum_eq_single s]
    · rw [peer_peer, if_pos ⟨rfl, trivial⟩]
    · intro s' _ hs
      exact if_neg fun h' => hs (recv_eq h'.1).2.symm
    · intro hs; exact absurd (by rw [ge_zero]; exact Finset.mem_univ s) hs
  · rw [if_neg h]
    exact Finset.sum_eq_zero fun s' _ => if_neg fun h' => h (by rw [(recv_eq h'.1).1, peer_peer])

theorem owed_bar (c d : Dev nD) : O₀ d (barCell c) () = if d = peer c then 1 else 0 := by
  unfold O₀ Orem
  rw [Pi.add_apply, Finsupp.add_apply, Finset.sum_apply, Finsupp.finset_sum_apply, tallyAt_apply]
  simp only [tallyAt_apply]
  rw [Finset.sum_eq_zero fun s' _ => if_neg fun h' => recv_ne_bar _ _ _ h'.1.symm, Nat.zero_add]
  by_cases h : d = peer c
  · subst h; rw [peer_peer, if_pos ⟨rfl, trivial⟩, if_pos rfl]
  · rw [if_neg h, if_neg fun h' => h (by rw [bar_eq h'.1, peer_peer])]

theorem launch_one (g : GSem nD τ sig) (e : Dev nD) (N : ℕ) (h : ∀ d, O₀ d g () = if d = e then N else 0) :
    tallyOn g (launchCredit (Pipeline.owing O₀) 0 g) = (tallyAt g () N : CellTallies nD τ sig Unit) := by
  unfold tallyAt; refine congrArg _ (Finsupp.ext fun u => ?_); cases u
  rw [Pipeline.launchCredit_owing, Finsupp.single_eq_same, Finset.sum_congr rfl fun d _ => h d, Finset.sum_ite_eq' Finset.univ e fun _ => N, if_pos (Finset.mem_univ _)]

def dueSem : Unit ⊕ Fin 16 → KC
  | .inl _ => .inr ()
  | .inr s => .inl (.inr (.inr s))
theorem dueSem_injective : Function.Injective dueSem := by
  rintro (_ | s) (_ | s') h
  · rfl
  · cases h
  · cases h
  · injection h with h; injection h with h; injection h with h; rw [h]

theorem dues_intro (c : Dev nD) : (Pipeline.launchCred O₀ c : sProp 𝕄) ⊢ dues c := by
  unfold Pipeline.launchCred
  refine (BI.bigSep_subset (t := Finset.univ.map (⟨fun k => csem (dueSem k), fun a b h => dueSem_injective (csem_injective h)⟩ : (Unit ⊕ Fin 16) ↪ SemLoc sig)) (Finset.subset_univ _)).trans ?_
  rw [bigSep_map, BI.bigSep_univ_sum, BI.bigSep_univ_of_subsingleton ()]
  unfold dues
  rw [← launch_one (barCell c) (peer c) 1 (owed_bar c)]
  refine sep_mono_right (Entails.of_eq (bigSep_congr fun s _ => ?_))
  rw [← launch_one (recvCell c s) (peer c) Nout fun d => owed_recv c d s]
  rfl

/-! ## The launch's conditions -/

/-- What a device starts with, the scratch buffers apart. -/
def start (c : Dev nD) : sProp 𝕄 :=
  iprop((∃ K, records m K ∗ linear c) ∗ dues c ∗ (((c : Thread nD τ).loc main_arg0) ↦{fullShare} X m c) ∗ ∃ f : S32768x1024.Idx → Elt F .bf16, ((c : Thread nD τ).loc main_v1) ↦{fullShare} f)

def dats (_ : Fin 1) (c : Dev nD) : Dat τ (Elt F) Unit ℕ UU ℕ cfg0 c where
  A w := w.elim0
  after w := w.elim0
  Φ t := match t with
    | ⟨0, _⟩ => iprop(start m c ∗ scratch c)
    | ⟨_ + 1, _⟩ => ended m c
  q _ := fullShare
  owed t := match t with
    | ⟨0, _⟩ => O₀ c
    | ⟨_ + 1, _⟩ => 0

theorem start_intro (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  unfold start G' shared records
  iintro ⟨⟨Hx, Hv⟩, #HL, Hc, -, ⟨%K, ⟨#HI, #HR⟩, Hl⟩⟩
  ihave Hc := (dues_intro (F := F) c) $$ Hc
  imodintro
  isplitl
  · isplitl [Hl]
    · iexists K
      isplitr
      · isplitr; · iexact HI
        isplitr; · iexact HR
        iexact HL
      iexact Hl
    isplitl [Hc]; · iexact Hc
    isplitl [Hx]; · iexact Hx
    iexists _; iexact Hv
  · iempintro

theorem body_run (c : Dev nD) (Q : Post F) :
    iprop((start m c ∗ scratch c) ∗ owing c (O₀ c)) ⊢ iprop((iprop(owing c 0 ∗ ended m c) -∗ Q ⟨⟩) -∗ run c (bodyK c) Q) := by
  unfold start
  iintro ⟨⟨⟨⟨%K, #HK, Hl⟩, Hd, Hx, ⟨%f, Hv⟩⟩, Hs⟩, HO⟩ Hk
  iapply (body_sound m K c Q) $$ [Hl Hd Hx Hv Hs HO]
  · isplitr; · iexact HK
    unfold atStart
    isplitl [HO]; · iexact HO
    iapply (begins_intro m K c f)
    isplitr; · iexact HK
    isplitl [Hl]; · iexact Hl
    isplitl [Hd]; · iexact Hd
    isplitl [Hx]; · iexact Hx
    isplitl [Hv]; · iexact Hv
    iexact Hs
  iintro He
  unfold run
  rw [wp_ret]
  imod (ended_intro m K c) $$ [He] with H
  · isplitr; · iexact HK
    iexact He
  imodintro
  iapply Hk; iexact H

set_option maxRecDepth 4000 in
theorem body_obligation (c : Dev nD) : BodyObligation (dats (F := F) m 0 c) (defs₀ (F := F)) 𝒱₀ () Set.univ := fun t => by
  rw [fin_N0 t]
  show iprop((start m c ∗ scratch c) ∗ (dats m 0 c).owesAt () t0_0.castSucc ∗ _) ⊢ wp frame (wpE (defs₀ (F := F)) 𝒱₀ (c : Thread nD τ) none) Set.univ (bodyAt0 (F := F) t0_0)
    (fun _ => iprop(ended m c ∗ (dats m 0 c).owesAt () t0_0.succ ∗ _))
  rw [body_eq, wp_deviceId]
  unfold Dat.owesAt Pipeline.owesWithin
  iintro ⟨Hs, ⟨%W, -, HO⟩, Hw⟩
  iapply (body_run m c _) $$ [Hs HO]
  · isplitl [Hs]; · iexact Hs
    unfold owing; iexists W; iexact HO
  unfold owing
  iintro ⟨⟨%W', HO⟩, He⟩
  isplitl [He]; · iexact He
  isplitl [HO]
  · iexists W'
    isplitr; · ipureintro; exact fun _ _ => Or.inl trivial
    iexact HO
  simp only [Finset.univ_eq_empty, BI.bigSep_empty]
  iempintro

/-! ## The run -/

/-- What every final state holds of device `c`: the result, the argument as it was. -/
def Final (c : Dev nD) (s : MemSt nD τ sig (Elt F)) : Prop :=
  s.mem ((c : Thread nD τ).loc main_v1) = outC m c ∧ s.mem ((c : Thread nD τ).loc main_arg0) = m ((c : Thread nD τ).loc main_arg0)

theorem read_final (c : Dev nD) (s' : Phys nD τ sig (Elt F)) :
    iprop(((((c : Thread nD τ).loc main_arg0) ↦{fullShare} X m c) ∗ (((c : Thread nD τ).loc main_v1) ↦{fullShare} outC m c) ∗ unscopedSems0 c) ∗ emp ∗ SI s')
      ⊢ (|={Set.univ}=> iprop(⌜Final m c s'.mem ∧ ∀ sm : SemLoc sig, sm.isScoped .tc = false → s'.mem.sem ((c.tc : Thread nD τ), sm) = 0⌝ ∗ SI s') : sProp 𝕄) := by
  iintro ⟨⟨Hx, Hv, Hu⟩, -, HS⟩
  icombine HS Hx gives %hx
  icombine HS Hv gives %hv
  imod (Pipeline.unscopedSems0_read (X := unscopedSems0 c) (c := c) fupd_intro s') $$ [Hu HS] with ⟨%hs, HS⟩
  · isplitl [Hu]; · iexact Hu
    iexact HS
  imodintro
  isplitr
  · ipureintro
    exact ⟨⟨Buf.eq_of_forall_mem_univ hv, Buf.eq_of_forall_mem_univ hx⟩, hs⟩
  iexact HS

set_option maxRecDepth 8000 in
/-- From any memory with zero counters, for any float values: every weakly fair execution of the eight devices ends, and
    in every final state each device's result array holds its block of the rounded argument, the argument arrays are as
    they were and every semaphore counter is zero. -/
theorem run_main (ρ : Dev nD → PrngReg) :
    θ_run (defs (F := F)) (onTc (τ := τ) (main (F := F))) ⟨m, fun _ => 0, ρ⟩ (fun r => (∀ c, Final m c r.2) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := fun c => Pipeline.cellsWaits_intro cfgs (dats m) () 0 c fun w => w.elim0)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP]; · iexact HP
      iexact HG)
    (hglob := glob m)
    (hA := fun _ w => w.elim0) (hpf := fun _ k => k.elim0)
    (X := start m)
    (Y := fun c => iprop((((c : Thread nD τ).loc main_arg0) ↦{fullShare} X m c) ∗ (((c : Thread nD τ).loc main_v1) ↦{fullShare} outC m c) ∗ unscopedSems0 c))
    (Z := fun _ => iprop(emp))
    (hX := start_intro m ρ)
    (hin := fun c => by
      rw [show (dats m 0 c).Φ 0 = iprop(start m c ∗ scratch c) from rfl, scopedRest0_eq]
      unfold scratch
      iintro ⟨Hs, -, Hr⟩
      isplitl [Hs]; · iexact Hs
      iexact Hr)
    (hout := fun c => by
      rw [show (dats m 0 c).Φ (Fin.last cfg0.N) = ended m c from rfl, scopedRest0_eq]
      unfold ended scratch
      iintro ⟨Hx, Hv, Hr, Ho, Hu⟩
      isplitl [Hx Hv Hu]
      · isplitl [Hx]; · iexact Hx
        isplitl [Hv]; · iexact Hv
        iexact Hu
      isplitl [Ho]; · iexact Ho
      iexact Hr)
    (QY := fun c s => Final m c s ∧ ∀ sm : SemLoc sig, sm.isScoped .tc = false → s.sem ((c.tc : Thread nD τ), sm) = 0)
    (hY := read_final m)
    (hQ := fun _ h hs => ⟨fun c => (h c).2.2.1, sem_eq_zero hs fun c => (h c).2.2.2⟩)

end Cert.AllToAll

end
-- ==== Proof.Value.lean ====
/-
  What the run says of each program: the frames, and at exact arithmetic the equality of the kernel's result, device by
  device, with the reference's, cut into blocks of columns.
-/
module

public import proofs.«01_k».proof.Defs
public import proofs.«01_k».proof.Proof.Launch
public import proofs.«01_k».proof.Proof.Gen.Kernel
public import proofs.«01_k».proof.Proof.Gen.ReferenceIdeal.Run

@[expose] public section

noncomputable section

namespace Cert.AllToAll

open Cert.KernelIdeal Cert.KernelIdeal.Gen
open Idealize.ShloMosaic Idealize.ShloMosaic.TcCoe Idealize.SL.Sem

/-! ## The frames -/

/-- The kernel read at exact arithmetic runs, keeps its argument and leaves every counter at zero. -/
theorem frame_ideal : Cert.quiescent_KernelIdeal := fun m ρ _ =>
  (θ_run Cert.KernelIdeal.defs _ _).mono (fun _ h => ⟨fun c => (h.1 c).2, h.2⟩) (run_main (F := Ideal) m ρ)

/-- The kernel as printed is the same program: it runs alike on the machine's own formats. -/
theorem frame_kernel : Cert.quiescent_Kernel := fun m ρ _ =>
  (θ_run (Cert.KernelIdeal.defs (F := Bits)) _ _).mono (fun _ h => ⟨fun c => (h.1 c).2, h.2⟩) (run_main (F := Bits) m ρ)

/-- So does the reference, which has no semaphore. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-! ## The result -/

/-- Where a row of the result comes from: the device of the pair whose part of the argument has that row. -/
theorem srcDev_half (c : Dev nD) (r : ℕ) (h : r < 32768) : (srcDev c r).val / 4 = r / 16384 := by
  unfold srcDev
  have h1 : r / 16384 = 0 ∨ r / 16384 = 1 := by omega
  have h2 : (peer c).val / 4 = 1 - c.val / 4 := by revert c; decide
  have h3 : c.val / 4 = 0 ∨ c.val / 4 = 1 := by have := c.isLt; change c.val < 8 at this; omega
  split
  · omega
  · omega

/-- A device's first coordinate on the mesh. -/
theorem first_coord (d : Dev nD) : Layout.meshLin [2, 2, 2] d.val [0] = d.val / 4 := by revert d; decide

/-- If each device holds its block of rows of an array, then each device's result is its block of columns of the rounded
    array. -/
theorem outC_block {F : FTy → Type} [FloatOps F] (m : (ℓ : Loc nD τ sig) → Buf (Elt F) ℓ) (A : Cert.ReferenceIdeal.S32768x2048.Idx → Elt F .f32)
    (h : ∀ d : Dev nD, X m d = Layout.blockN ⟨2, ![16384, 2048]⟩ ⟨2, ![32768, 2048]⟩ (Layout.meshBlock [2, 2, 2] ![[0], []] d) A) (c : Dev nD) :
    outC m c = Layout.blockN ⟨2, ![32768, 1024]⟩ ⟨2, ![32768, 2048]⟩ (Layout.meshBlock [2, 2, 2] ![[], [0]] c) (fun i => rnd (A i)) := by
  funext i
  have h0 : (i 0).val < 32768 := (i 0).isLt
  unfold outC
  rw [h, Layout.blockN_apply, Layout.blockN_apply]
  refine congrArg (fun j => rnd (A j)) (funext fun b => Fin.ext ?_)
  rw [Layout.TilesN.idx_val, Layout.TilesN.idx_val]
  match b with
  | ⟨0, _⟩ =>
    show Layout.meshLin [2, 2, 2] (srcDev c (i 0).val).val [0] * 16384 + (i 0).val % 16384 = Layout.meshLin [2, 2, 2] c.val [] * 32768 + (i 0).val
    rw [first_coord, srcDev_half c _ h0]
    show _ = 0 * 32768 + (i 0).val
    omega
  | ⟨1, _⟩ =>
    show Layout.meshLin [2, 2, 2] (srcDev c (i 0).val).val [] * 2048 + (1024 * (xp c).val + (i 1).val) = Layout.meshLin [2, 2, 2] c.val [0] * 1024 + (i 1).val
    rw [first_coord, xp_val]
    show 0 * 2048 + (1024 * (c.val / 4) + (i 1).val) = _
    omega

/-- At exact arithmetic every device ends with its block of columns of what the reference computes, and both keep their
    arguments. -/
theorem algebraic : Cert.algebraic_KernelIdeal_ReferenceIdeal := fun m ρ m' ρ' _ hagree =>
  ⟨_, (θ_run Cert.KernelIdeal.defs _ _).mono (fun _ h c => ⟨(h.1 c).1.trans (outC_block m _ hagree c), (h.1 c).2⟩) (run_main (F := Ideal) m ρ),
    (θ_run Cert.ReferenceIdeal.defs _ _).mono (fun _ h => h 0) (Cert.ReferenceIdeal.Value.run (F := Ideal) m' ρ')⟩

end Cert.AllToAll

end
-- ==== Proof.lean ====
/-
  The claims: each program's frame, that the idealisation rewrote nothing, and that at exact arithmetic the kernel
  computes what the reference does, laid out as the kernel's result is.
-/
module

public import proofs.«01_k».proof.Defs
public import proofs.«01_k».proof.Proof.Value
public import proofs.«01_k».proof.Proof.Gen.Kernel
public import proofs.«01_k».proof.Proof.Gen.KernelIdeal
public import proofs.«01_k».proof.Proof.Gen.ReferenceIdeal

@[expose] public section

noncomputable section

namespace Cert.Proof

/-- All of the certificate's claims, at the programs' side conditions as proved. -/
theorem claim : Cert.Claim := ⟨Cert.Kernel.Gen.facts, Cert.KernelIdeal.Gen.facts, Cert.ReferenceIdeal.Gen.facts,
  Cert.AllToAll.frame_kernel, Cert.AllToAll.frame_ideal, Cert.AllToAll.frame_reference, trivial, Cert.AllToAll.algebraic⟩

end Cert.Proof

end
